-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)) (v6 : (c : Dev Cert.KernelIdeal.nD) → Buf (Elt Ideal) ((c.tc : Thread Cert.KernelIdeal.nD Cert.KernelIdeal.τ).loc Cert.KernelIdeal.main_v1_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_v1_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x128x3584 : Shape := ⟨3, ![1, 128, 3584]⟩
abbrev S3x3584x3584 : Shape := ⟨3, ![3, 3584, 3584]⟩
abbrev S3x3584 : Shape := ⟨2, ![3, 3584]⟩
abbrev S128x3584 : Shape := ⟨2, ![128, 3584]⟩
abbrev S1x128 : Shape := ⟨2, ![1, 128]⟩
abbrev S3x7x3584x512 : Shape := ⟨4, ![3, 7, 3584, 512]⟩
abbrev S3x128x3584 : Shape := ⟨3, ![3, 128, 3584]⟩
abbrev S128x128 : Shape := ⟨2, ![128, 128]⟩
abbrev S3x128 : Shape := ⟨2, ![3, 128]⟩
abbrev S_ : Shape := ⟨0, ![]⟩
abbrev S3x7 : Shape := ⟨2, ![3, 7]⟩
abbrev S1x1 : Shape := ⟨2, ![1, 1]⟩
abbrev S1x1x3584x512 : Shape := ⟨4, ![1, 1, 3584, 512]⟩
abbrev S3584x512 : Shape := ⟨2, ![3584, 512]⟩
abbrev S1x3584x512 : Shape := ⟨3, ![1, 3584, 512]⟩
abbrev S128 : Shape := ⟨1, ![128]⟩
abbrev S128x1 : Shape := ⟨2, ![128, 1]⟩
abbrev S1x128x128 : Shape := ⟨3, ![1, 128, 128]⟩
abbrev S128x512 : Shape := ⟨2, ![128, 512]⟩

abbrev nBuf : Space → Nat
  | .hbm => 12
  | .vmem => 9
  | .smem => 0
  | _ => 0

abbrev bufTy : (tb : Table) → Fin (tcTables nBuf tb) → BufTy
  | .hbm, ⟨0, _⟩ => ⟨S1x128x3584, .bf16⟩
  | .hbm, ⟨1, _⟩ => ⟨S3x3584x3584, .fp8e4m3⟩
  | .hbm, ⟨2, _⟩ => ⟨S3x3584, .f32⟩
  | .hbm, ⟨3, _⟩ => ⟨S3x3584, .f32⟩
  | .hbm, ⟨4, _⟩ => ⟨S128x3584, .bf16⟩
  | .hbm, ⟨5, _⟩ => ⟨S128x3584, .bf16⟩
  | .hbm, ⟨6, _⟩ => ⟨S128x3584, .fp8e4m3⟩
  | .hbm, ⟨7, _⟩ => ⟨S1x128, .f32⟩
  | .hbm, ⟨8, _⟩ => ⟨S128x3584, .fp8e4m3⟩
  | .hbm, ⟨9, _⟩ => ⟨S1x128, .f32⟩
  | .hbm, ⟨10, _⟩ => ⟨S128x3584, .fp8e4m3⟩
  | .hbm, ⟨11, _⟩ => ⟨S1x128, .f32⟩
  | .local _ .vmem, ⟨0, _⟩ => ⟨S128x3584, .bf16⟩
  | .local _ .vmem, ⟨1, _⟩ => ⟨S3x7x3584x512, .fp8e4m3⟩
  | .local _ .vmem, ⟨2, _⟩ => ⟨S3x3584, .f32⟩
  | .local _ .vmem, ⟨3, _⟩ => ⟨S3x3584, .f32⟩
  | .local _ .vmem, ⟨4, _⟩ => ⟨S128x3584, .f32⟩
  | .local _ .vmem, ⟨5, _⟩ => ⟨S3x128x3584, .fp8e4m3⟩
  | .local _ .vmem, ⟨6, _⟩ => ⟨S128x128, .f32⟩
  | .local _ .vmem, ⟨7, _⟩ => ⟨S3x128, .f32⟩
  | .local _ .vmem, ⟨8, _⟩ => ⟨S128x3584, .bf16⟩
  | _, _ => ⟨S1x128x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev main_v1_5 : Ref sig .tc := ⟨.hbm, 10, rfl⟩
abbrev main_v1_6 : Ref sig .tc := ⟨.hbm, 11, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩

abbrev nD : Nat := 1
abbrev τ : Topo := Topo.v7x

variable {F : FTy → Type} [FloatOps F]

abbrev grid0 : Pipeline.Grid := .none
-- ==== ReferenceIdeal.lean ====
abbrev S1x128x3584 : Shape := ⟨3, ![1, 128, 3584]⟩
abbrev S3x3584x3584 : Shape := ⟨3, ![3, 3584, 3584]⟩
abbrev S3x3584 : Shape := ⟨2, ![3, 3584]⟩
abbrev S128x3584 : Shape := ⟨2, ![128, 3584]⟩
abbrev S1x128 : Shape := ⟨2, ![1, 128]⟩
abbrev S128 : Shape := ⟨1, ![128]⟩
abbrev S128x1 : Shape := ⟨2, ![128, 1]⟩
abbrev S128x252 : Shape := ⟨2, ![128, 252]⟩
abbrev S1x3584x3584 : Shape := ⟨3, ![1, 3584, 3584]⟩
abbrev S3584x3584 : Shape := ⟨2, ![3584, 3584]⟩
abbrev S1x3584 : Shape := ⟨2, ![1, 3584]⟩

abbrev nBuf : Space → Nat
  | .hbm => 11
  | .vmem => 11
  | .smem => 0
  | _ => 0

abbrev bufTy : (tb : Table) → Fin (tcTables nBuf tb) → BufTy
  | .hbm, ⟨0, _⟩ => ⟨S1x128x3584, .bf16⟩
  | .hbm, ⟨1, _⟩ => ⟨S3x3584x3584, .fp8e4m3⟩
  | .hbm, ⟨2, _⟩ => ⟨S3x3584, .f32⟩
  | .hbm, ⟨3, _⟩ => ⟨S3x3584, .f32⟩
  | .hbm, ⟨4, _⟩ => ⟨S128x3584, .bf16⟩
  | .hbm, ⟨5, _⟩ => ⟨S128x3584, .fp8e4m3⟩
  | .hbm, ⟨6, _⟩ => ⟨S1x128, .f32⟩
  | .hbm, ⟨7, _⟩ => ⟨S128x3584, .fp8e4m3⟩
  | .hbm, ⟨8, _⟩ => ⟨S1x128, .f32⟩
  | .hbm, ⟨9, _⟩ => ⟨S128x3584, .fp8e4m3⟩
  | .hbm, ⟨10, _⟩ => ⟨S1x128, .f32⟩
  | .local _ .vmem, ⟨0, _⟩ => ⟨S1x128x3584, .bf16⟩
  | .local _ .vmem, ⟨1, _⟩ => ⟨S3x3584x3584, .fp8e4m3⟩
  | .local _ .vmem, ⟨2, _⟩ => ⟨S3x3584, .f32⟩
  | .local _ .vmem, ⟨3, _⟩ => ⟨S3x3584, .f32⟩
  | .local _ .vmem, ⟨4, _⟩ => ⟨S128x3584, .bf16⟩
  | .local _ .vmem, ⟨5, _⟩ => ⟨S128x3584, .fp8e4m3⟩
  | .local _ .vmem, ⟨6, _⟩ => ⟨S1x128, .f32⟩
  | .local _ .vmem, ⟨7, _⟩ => ⟨S128x3584, .fp8e4m3⟩
  | .local _ .vmem, ⟨8, _⟩ => ⟨S1x128, .f32⟩
  | .local _ .vmem, ⟨9, _⟩ => ⟨S128x3584, .fp8e4m3⟩
  | .local _ .vmem, ⟨10, _⟩ => ⟨S1x128, .f32⟩
  | _, _ => ⟨S1x128x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev main_v0_6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S1x128x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x3584x3584 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x3584 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x3584 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x3584 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Shape.lean ====
/- The kernel's body written with its loops: the same program as the printed one, in which each of the repeated
   column steps is one definition taken at its column block. `body_eq` says that it is the printed body. -/
module

public import proofs.«01_k».proof.Proof.Gen.KernelIdeal.Frame

@[expose] public section

set_option maxRecDepth 16384

noncomputable section

namespace Cert.KernelIdeal.Hand

open Idealize.ShloMosaic Idealize.ShloMosaic.TcCoe Idealize.SL.Sem
open Cert.KernelIdeal Cert.KernelIdeal.Gen

variable {F : FTy → Type} [FloatOps F]

/-- A TensorCore program of this kernel. -/
abbrev Pr (F : FTy → Type) (α : Type) := Prog (TpuEff nD τ sig (Elt F) Λ₀ .tc) α

/-- A step run at each member of a list, a value carried. -/
def loop {α β : Type} (f : β → α → Pr F α) : List β → α → Pr F α
  | [], a => pure a
  | b :: bs, a => do
    let a' ← f b a
    loop f bs a'

/-! ## The buffers -/

abbrev xV : Memref sig .tc .vmem S128x3584 .bf16 := Memref.whole cc0_scratch0
abbrev wV : Memref sig .tc .vmem S3x7x3584x512 .fp8e4m3 := Memref.whole cc0_scratch1
abbrev wsV : Memref sig .tc .vmem S3x3584 .f32 := Memref.whole cc0_scratch2
abbrev bV : Memref sig .tc .vmem S3x3584 .f32 := Memref.whole cc0_scratch3
abbrev xlV : Memref sig .tc .vmem S128x3584 .f32 := Memref.whole cc0_scratch4
abbrev codesV : Memref sig .tc .vmem S3x128x3584 .fp8e4m3 := Memref.whole cc0_scratch5
abbrev sbV : Memref sig .tc .vmem S128x128 .f32 := Memref.whole cc0_scratch6
abbrev srowV : Memref sig .tc .vmem S3x128 .f32 := Memref.whole cc0_scratch7
abbrev outV : Memref sig .tc .vmem S128x3584 .bf16 := Memref.whole cc0_scratch8
abbrev wH : Memref sig .tc .hbm S3x3584x3584 .fp8e4m3 := Memref.whole main_arg1
abbrev outH : Memref sig .tc .hbm S128x3584 .bf16 := Memref.whole main_v1_0

/-! ## The rectangles -/

theorem col_inb : ∀ (c : Fin 28) (a : Fin 2), (![0, 128 * c.val] : Fin 2 → Nat) a + S128x128.size a ≤ S128x3584.size a := by decide
/-- Column block `c` of a `128 × 3584` buffer. -/
abbrev colR (c : Fin 28) : Rect S128x3584 := Rect.unit (s := S128x3584) ![0, 128 * c.val] S128x128.size (col_inb c)

theorem row_inb : ∀ (l : Fin 3) (c : Fin 28) (a : Fin 2), (![l.val, 128 * c.val] : Fin 2 → Nat) a + S1x128.size a ≤ S3x3584.size a := by decide
/-- Column block `c` of row `l` of a parameter table. -/
abbrev rowR (l : Fin 3) (c : Fin 28) : Rect S3x3584 := Rect.unit (s := S3x3584) ![l.val, 128 * c.val] S1x128.size (row_inb l c)

theorem code_inb : ∀ (l : Fin 3) (c : Fin 28) (a : Fin 3), (![l.val, 0, 128 * c.val] : Fin 3 → Nat) a + S1x128x128.size a ≤ S3x128x3584.size a := by decide
/-- Column block `c` of layer `l`'s codes. -/
abbrev codeR (l : Fin 3) (c : Fin 28) : Rect S3x128x3584 := Rect.unit (s := S3x128x3584) ![l.val, 0, 128 * c.val] S1x128x128.size (code_inb l c)
theorem code_packed : ∀ (l : Fin 3) (c : Fin 28), (codeR l c).PackedRows (EltTy.packing .fp8e4m3) := by decide
theorem out_packed : ∀ (c : Fin 28), (colR c).PackedRows (EltTy.packing .bf16) := by decide

theorem lane_inb : ∀ a : Fin 2, (![0, 0] : Fin 2 → Nat) a + S128x128.size a ≤ S128x128.size a := by decide
/-- The whole of a `128 × 128` buffer. -/
abbrev laneR : Rect S128x128 := Rect.unit (s := S128x128) ![0, 0] S128x128.size lane_inb

theorem acc_slices : ∀ k : Fin 4, S128x512.Slices ![0, 128 * k.val] S128x128 := by decide

/-- The chunks of a layer, in order. -/
def chunks : List (Fin 7) := [0, 1, 2, 3, 4, 5, 6]
/-- Every weight chunk, in the order issued. -/
def wChunks : List (Fin 3 × Fin 7) :=
  [(0, 0), (0, 1), (0, 2), (0, 3), (0, 4), (0, 5), (0, 6), (1, 0), (1, 1), (1, 2), (1, 3), (1, 4), (1, 5), (1, 6),
   (2, 0), (2, 1), (2, 2), (2, 3), (2, 4), (2, 5), (2, 6)]

/-- Column `k` of chunk `j`, as a column block. -/
abbrev colOf (j : Fin 7) (k : Fin 4) : Fin 28 := ⟨4 * j.val + k.val, by omega⟩

/-! ## The scales -/

/-- The row maximum of the lane maxima, in every lane. -/
def rowMax (a : FVec F S128x128 .f32) : FVec F S128x128 .f32 :=
  broadcastTo S128x128 (shapeCast S128x1 (shapeCast S128x1
    (multiReduction .maximumf [1] S128 a 0xFF800000#32 reduces_S128x128_S128 (.inl rfl) rfl)
    shapeCasts_S128_S128x1) shapeCasts_S128x1_S128x1) broadcasts_S128x1_S128x128

/-- The row maximum over 448. -/
def ratio (a : FVec F S128x128 .f32) : FVec F S128x128 .f32 :=
  mulf (rowMax a) (broadcast S128x128 (Scalar.ofBits .f32 0x3B124925#32))

/-- One bit of the search for the exponent field. -/
def bitStep (v : FVec F S128x128 .f32) (b : BitVec 32) (f : IVec S128x128 32) : IVec S128x128 32 :=
  select (cmpf .oge v (bitcastToFloat .f32 (shli (addi f (broadcast S128x128 b)) (broadcast S128x128 23#32))))
    (addi f (broadcast S128x128 b)) f

/-- The exponent field, all eight bits found. -/
def search (v : FVec F S128x128 .f32) : IVec S128x128 32 :=
  bitStep v 1#32 (bitStep v 2#32 (bitStep v 4#32 (bitStep v 8#32 (bitStep v 16#32 (bitStep v 32#32 (bitStep v 64#32
    (bitStep v 128#32 (broadcast S128x128 0#32))))))))

def field (v : FVec F S128x128 .f32) : IVec S128x128 32 :=
  select (cmpf .olt v (broadcast S128x128 (Scalar.ofBits .f32 0x7E800000#32))) (search v) (broadcast S128x128 255#32)

/-- The exponent of the scale. -/
def expo (v : FVec F S128x128 .f32) : IVec S128x128 32 :=
  select (ori (cmpi .eq (field v) (broadcast S128x128 0#32)) (cmpi .eq (field v) (broadcast S128x128 255#32)))
    (broadcast S128x128 0#32) (subi (field v) (broadcast S128x128 126#32))

def scaleOf (a : FVec F S128x128 .f32) : FVec F S128x128 .f32 :=
  bitcastToFloat .f32 (shli (addi (broadcast S128x128 127#32) (expo (ratio a))) (broadcast S128x128 23#32))

def invOf (a : FVec F S128x128 .f32) : FVec F S128x128 .f32 :=
  bitcastToFloat .f32 (shli (subi (broadcast S128x128 127#32) (expo (ratio a))) (broadcast S128x128 23#32))

/-! ## The column steps -/

def loadX (c : Fin 28) : Pr F (FVec F S128x128 .f32) := do
  let v : Vec F S128x128 .bf16 ← Prog.lift (.load xV (colR c).toLoadRect (View.loadsAt_vmem h_S128x128))
  pure (extf .f32 v bitsLt_bf16_f32)

def loadXl (c : Fin 28) : Pr F (FVec F S128x128 .f32) := do
  let v : Vec F S128x128 .f32 ← Prog.lift (.load xlV (colR c).toLoadRect (View.loadsAt_vmem h_S128x128))
  pure v

/-- The lane maxima, column block `c` taken in. -/
def amaxStep (c : Fin 28) (a : FVec F S128x128 .f32) : Pr F (FVec F S128x128 .f32) := do
  let x ← loadX c
  pure (maximumf a (absf x))

def amax0 : FVec F S128x128 .f32 := broadcast S128x128 (Scalar.ofBits .f32 0x00000000#32)

/-- The 28 column blocks, in order. -/
def cols : List (Fin 28) :=
  [0, 1, 2, 3, 4, 5, 6, 7, 8, 9, 10, 11, 12, 13, 14, 15, 16, 17, 18, 19, 20, 21, 22, 23, 24, 25, 26, 27]

def amaxX : Pr F (FVec F S128x128 .f32) := loop amaxStep cols amax0

/-- The codes of a column block. -/
def codeOf (inv x : FVec F S128x128 .f32) : FVec F S128x128 .fp8e4m3 :=
  truncf .fp8e4m3 (minimumf (broadcast S128x128 (Scalar.ofBits .f32 0x43E00000#32))
    (maximumf (broadcast S128x128 (Scalar.ofBits .f32 0xC3E00000#32)) (mulf x inv))) bitsLt_fp8e4m3_f32

def codeStep (l : Fin 3) (ld : Fin 28 → Pr F (FVec F S128x128 .f32)) (inv : FVec F S128x128 .f32) (c : Fin 28) (_ : PUnit) :
    Pr F PUnit := do
  let x ← ld c
  let _ ← Prog.lift (.load codesV (codeR l c).toLoadRect (View.loadsAt_vmem h_S1x128x128))
  Prog.lift (.store codesV (codeR l c) (shapeCast S1x128x128 (codeOf inv x) shapeCasts_S128x128_S1x128x128) Finset.univ
    (View.stores_vmem h_S1x128x128 ((Memref.isWhole_whole _).storeExact_slice rfl _ (code_packed l c)) (fun _ => rfl)) (.inl rfl))

/-- Layer `l`'s scale put in every lane, then its codes. -/
def quantise (l : Fin 3) (ld : Fin 28 → Pr F (FVec F S128x128 .f32)) (a : FVec F S128x128 .f32) : Pr F PUnit := do
  let _ ← Prog.lift (.load sbV laneR.toLoadRect (View.loadsAt_vmem h_S128x128))
  Prog.lift (.store sbV laneR (shapeCast S128x128 (scaleOf a) shapeCasts_S128x128_S128x128) Finset.univ
    (View.stores_vmem_bits_univ h_S128x128 rfl) (.inl rfl))
  loop (codeStep l ld (invOf a)) cols ⟨⟩

/-- The row of a scale held in every lane. -/
def scaleRow (a : FVec F S128x128 .f32) : FVec F S1x128 .f32 :=
  shapeCast S1x128 (extractStridedSlice S1x128 ![0, 0] (transpose S128x128 [1, 0] (scaleOf a) transposes_S128x128_p1_0_S128x128)
    slices_S128x128_o0_0_S1x128) shapeCasts_S1x128_S1x128

theorem srow_inb : ∀ (l : Fin 3) (a : Fin 2), (![l.val, 0] : Fin 2 → Nat) a + S1x128.size a ≤ S3x128.size a := by decide
abbrev srowR (l : Fin 3) : Rect S3x128 := Rect.unit (s := S3x128) ![l.val, 0] S1x128.size (srow_inb l)

/-- The next features of column `k` of chunk `j`. -/
def colVal (l : Fin 3) (j : Fin 7) (k : Fin 4) (acc : FVec F S128x512 .f32) : Pr F (FVec F S128x128 .f32) := do
  let x ← loadX (colOf j k)
  let s ← Prog.lift (.load sbV laneR.toLoadRect (View.loadsAt_vmem h_S128x128))
  let ws ← Prog.lift (.load wsV (rowR l (colOf j k)).toLoadRect (View.loadsAt_vmem h_S1x128))
  let b ← Prog.lift (.load bV (rowR l (colOf j k)).toLoadRect (View.loadsAt_vmem h_S1x128))
  let xl ← (match l with
    | 0 => pure x
    | _ => loadXl (colOf j k) : Pr F (FVec F S128x128 .f32))
  pure (addf (mulf x (addf (mulf (mulf (extractStridedSlice S128x128 ![0, 128 * k.val] acc (acc_slices k)) s)
    (broadcastTo S128x128 ws broadcasts_S1x128_S128x128)) (broadcastTo S128x128 b broadcasts_S1x128_S128x128))) xl)

def colStep (l : Fin 3) (j : Fin 7) (acc : FVec F S128x512 .f32) (k : Fin 4) (a : FVec F S128x128 .f32) : Pr F (FVec F S128x128 .f32) := do
  let xn ← colVal l j k acc
  let _ ← loadXl (colOf j k)
  Prog.lift (.store xlV (colR (colOf j k)) (shapeCast S128x128 xn shapeCasts_S128x128_S128x128) Finset.univ
    (View.stores_vmem_bits_univ h_S128x128 rfl) (.inl rfl))
  pure (maximumf a (absf xn))

def lastStep (j : Fin 7) (acc : FVec F S128x512 .f32) (k : Fin 4) (_ : PUnit) : Pr F PUnit := do
  let xn ← colVal 2 j k acc
  let _ ← Prog.lift (.load outV (colR (colOf j k)).toLoadRect (View.loadsAt_vmem h_S128x128))
  Prog.lift (.store outV (colR (colOf j k)) (shapeCast S128x128 (truncf .bf16 xn bitsLt_bf16_f32) shapeCasts_S128x128_S128x128) Finset.univ
    (View.stores_vmem h_S128x128 ((Memref.isWhole_whole _).storeExact_slice rfl _ (out_packed (colOf j k))) (fun _ => rfl)) (.inl rfl))

/-- The product of layer `l`'s codes with a chunk of its weights. -/
def prod (cm : FVec F S128x3584 .fp8e4m3) (wm : FVec F S3584x512 .fp8e4m3) : FVec F S128x512 .f32 :=
  matmul dot_S128x3584_S3584x512_S128x512_1_0_0_1_n_n none cm wm (constant S128x512 .f32 0x00000000#32)

/-- A chunk's four column steps. -/
def chunkCols (l : Fin 3) (j : Fin 7) (acc : FVec F S128x512 .f32) (a : FVec F S128x128 .f32) :
    Pr F (FVec F S128x128 .f32) := loop (colStep l j acc) [0, 1, 2, 3] a

def lastCols (j : Fin 7) (acc : FVec F S128x512 .f32) : Pr F PUnit :=
  loop (lastStep j acc) [0, 1, 2, 3] ⟨⟩

/-! ## The transfers -/

theorem wsem_inb : ∀ (l : Fin 3) (j : Fin 7) (a : Fin 2), (![l.val, j.val] : Fin 2 → Nat) a + S1x1.size a ≤ S3x7.size a := by decide
theorem wdst_inb : ∀ (l : Fin 3) (j : Fin 7) (a : Fin 4), (![l.val, j.val, 0, 0] : Fin 4 → Nat) a + S1x1x3584x512.size a ≤ S3x7x3584x512.size a := by decide
theorem wsrc_inb : ∀ (l : Fin 3) (j : Fin 7) (a : Fin 3), (![l.val, 0, 512 * j.val] : Fin 3 → Nat) a + S1x3584x512.size a ≤ S3x3584x3584.size a := by decide
theorem cw_inb : ∀ (l : Fin 3) (a : Fin 3), (![l.val, 0, 0] : Fin 3 → Nat) a + S1x128x3584.size a ≤ S3x128x3584.size a := by decide
theorem ow_inb : ∀ (j : Fin 7) (a : Fin 2), (![0, 512 * j.val] : Fin 2 → Nat) a + S128x512.size a ≤ S128x3584.size a := by decide

abbrev wdstR (l : Fin 3) (j : Fin 7) : Rect S3x7x3584x512 := Rect.unit (s := S3x7x3584x512) ![l.val, j.val, 0, 0] S1x1x3584x512.size (wdst_inb l j)
abbrev wsrcR (l : Fin 3) (j : Fin 7) : Rect S3x3584x3584 := Rect.unit (s := S3x3584x3584) ![l.val, 0, 512 * j.val] S1x3584x512.size (wsrc_inb l j)
abbrev cwR (l : Fin 3) : Rect S3x128x3584 := Rect.unit (s := S3x128x3584) ![l.val, 0, 0] S1x128x3584.size (cw_inb l)
abbrev owR (j : Fin 7) : Rect S128x3584 := Rect.unit (s := S128x3584) ![0, 512 * j.val] S128x512.size (ow_inb j)
theorem wdst_words : ∀ (l : Fin 3) (j : Fin 7), (wdstR l j).WholeWords (EltTy.packing .fp8e4m3) := by decide
theorem wsrc_words : ∀ (l : Fin 3) (j : Fin 7), (wsrcR l j).WholeWords (EltTy.packing .fp8e4m3) := by decide
theorem cw_words : ∀ (l : Fin 3), (cwR l).WholeWords (EltTy.packing .fp8e4m3) := by decide
theorem ow_words : ∀ (j : Fin 7), (owR j).WholeWords (EltTy.packing .bf16) := by decide

/-- Weight chunk `(l, j)`: its semaphore, its staging buffer, its source. -/
abbrev wSem (l : Fin 3) (j : Fin 7) : DmaSems sig S_ :=
  (cc0_scratch11.slice (Rect.unit (s := S3x7) ![l.val, j.val] S1x1.size (wsem_inb l j))).squeeze S_ squeezes_S1x1_S_
abbrev wDst (l : Fin 3) (j : Fin 7) : Memref sig .tc .vmem S3584x512 .fp8e4m3 :=
  (wV.slice (wdstR l j) (fun _ => rfl)).squeeze S3584x512 squeezes_S1x1x3584x512_S3584x512
abbrev wSrc (l : Fin 3) (j : Fin 7) : Memref sig .tc .hbm S3584x512 .fp8e4m3 :=
  (wH.slice (wsrcR l j) (fun _ => rfl)).squeeze S3584x512 squeezes_S1x3584x512_S3584x512
/-- Layer `l`'s codes, its scale row; chunk `j` of the output, staged and in HBM. -/
abbrev codesW (l : Fin 3) : Memref sig .tc .vmem S128x3584 .fp8e4m3 :=
  (codesV.slice (cwR l) (fun _ => rfl)).squeeze S128x3584 squeezes_S1x128x3584_S128x3584
abbrev srowW (l : Fin 3) : Memref sig .tc .vmem S1x128 .f32 := srowV.slice (srowR l) (fun _ => rfl)
abbrev outW (j : Fin 7) : Memref sig .tc .vmem S128x512 .bf16 := outV.slice (owR j) (fun _ => rfl)
abbrev outHW (j : Fin 7) : Memref sig .tc .hbm S128x512 .bf16 := outH.slice (owR j) (fun _ => rfl)

theorem wSrc_exact (l : Fin 3) (j : Fin 7) : (wSrc l j).view.WordExact := ((Memref.isWhole_whole _).wordExact_slice rfl _ (wsrc_words l j)).reshape _ _
theorem wDst_exact (l : Fin 3) (j : Fin 7) : (wDst l j).view.WordExact := ((Memref.isWhole_whole _).wordExact_slice rfl _ (wdst_words l j)).reshape _ _
theorem codesW_exact (l : Fin 3) : (codesW l).view.WordExact := ((Memref.isWhole_whole _).wordExact_slice rfl _ (cw_words l)).reshape _ _
theorem outW_exact (j : Fin 7) : (outW j).view.WordExact := (Memref.isWhole_whole _).wordExact_slice rfl _ (ow_words j)
theorem outHW_exact (j : Fin 7) : (outHW j).view.WordExact := (Memref.isWhole_whole _).wordExact_slice rfl _ (ow_words j)

/-- A copy started on a semaphore, and awaited. -/
abbrev copyStart {sp sp' : Space} {s : Shape} {e : EltTy} (src : Memref sig .tc sp s e) (dst : Memref sig .tc sp' s e) (sm : DmaSem sig)
    (hs : src.view.WordExact) (hd : dst.view.WordExact) (ht : DmaTarget.Typed sp (SemLoc.dma sm) (DmaTarget.here (nD := nD) (τ := τ) (p := (Proc.tc : Proc τ)) dst)) : Pr F PUnit :=
  Prog.lift (.enqueueDma src (.here dst) (.dma sm) hs hd ht)
abbrev copyWait {sp sp' : Space} {s : Shape} {e : EltTy} (src : Memref sig .tc sp s e) (dst : Memref sig .tc sp' s e) (sm : DmaSem sig)
    (hs : src.view.WordExact) (hd : dst.view.WordExact) : Pr F PUnit :=
  Prog.lift (.waitDma2 sm src dst hs hd)

def wStart (p : Fin 3 × Fin 7) (_ : PUnit) : Pr F PUnit :=
  copyStart (wSrc p.1 p.2) (wDst p.1 p.2) (wSem p.1 p.2).sem (wSrc_exact _ _) (wDst_exact _ _) ⟨Or.inl rfl, trivial⟩
def wWait (l : Fin 3) (j : Fin 7) : Pr F PUnit :=
  copyWait (wSrc l j) (wDst l j) (wSem l j).sem (wSrc_exact _ _) (wDst_exact _ _)

/-- Layer `l`'s codes and weight chunk `(l, j)`, multiplied. -/
def dotChunk (l : Fin 3) (j : Fin 7) : Pr F (FVec F S128x512 .f32) := do
  let cv : Vec F S1x128x3584 .fp8e4m3 ← Prog.lift (.load codesV (cwR l).toLoadRect (View.loadsAt_vmem h_S1x128x3584))
  let wv : Vec F S1x1x3584x512 .fp8e4m3 ← Prog.lift (.load wV (wdstR l j).toLoadRect (View.loadsAt_vmem h_S1x1x3584x512))
  pure (prod (shapeCast S128x3584 cv shapeCasts_S1x128x3584_S128x3584) (shapeCast S3584x512 wv shapeCasts_S1x1x3584x512_S3584x512))

/-- Layer `l`'s scale row stored. -/
def storeRow (l : Fin 3) (a : FVec F S128x128 .f32) : Pr F PUnit := do
  let _ ← Prog.lift (.load srowV (srowR l).toLoadRect (View.loadsAt_vmem h_S1x128))
  Prog.lift (.store srowV (srowR l) (scaleRow a) Finset.univ (View.stores_vmem_bits_univ h_S1x128 rfl) (.inl rfl))

/-- The two copies out of a layer started. -/
def publish (l : Fin 3) (cH : Memref sig .tc .hbm S128x3584 .fp8e4m3) (hc : cH.view.WordExact) (sH : Memref sig .tc .hbm S1x128 .f32) (hs : sH.view.WordExact) :
    Pr F PUnit := do
  copyStart (codesW l) cH cc0_scratch12.sem (codesW_exact l) hc ⟨Or.inl rfl, trivial⟩
  copyStart (srowW l) sH cc0_scratch13.sem (View.wordExact_bits rfl) hs ⟨Or.inl rfl, trivial⟩

/-- One chunk of a layer that is not the last: the weights awaited, the product, the column steps. -/
def chunk (l : Fin 3) (j : Fin 7) (a : FVec F S128x128 .f32) : Pr F (FVec F S128x128 .f32) := do
  wWait l j
  let acc ← dotChunk l j
  chunkCols l j acc a

/-- One chunk of the last layer: the same, and its copy out started. -/
def lastChunk (j : Fin 7) (_ : PUnit) : Pr F PUnit := do
  wWait 2 j
  let acc ← dotChunk 2 j
  lastCols j acc
  copyStart (outW j) (outHW j) cc0_scratch12.sem (outW_exact j) (outHW_exact j) ⟨Or.inl rfl, trivial⟩

def outWait (j : Fin 7) (_ : PUnit) : Pr F PUnit :=
  copyWait (outW j) (outHW j) cc0_scratch12.sem (outW_exact j) (outHW_exact j)

/-- The arguments' copies started, the weights' after them. -/
def starts : Pr F PUnit := do
  copyStart (Memref.whole main_v0) xV cc0_scratch9.sem (Memref.isWhole_whole _).wordExact (Memref.isWhole_whole _).wordExact ⟨Or.inl rfl, trivial⟩
  copyStart (Memref.whole main_arg2) wsV cc0_scratch10.sem (Memref.isWhole_whole _).wordExact (Memref.isWhole_whole _).wordExact ⟨Or.inl rfl, trivial⟩
  copyStart (Memref.whole main_arg3) bV cc0_scratch10.sem (Memref.isWhole_whole _).wordExact (Memref.isWhole_whole _).wordExact ⟨Or.inl rfl, trivial⟩
  loop wStart wChunks ⟨⟩

def paramWaits : Pr F PUnit := do
  copyWait (Memref.whole main_arg2) wsV cc0_scratch10.sem (Memref.isWhole_whole _).wordExact (Memref.isWhole_whole _).wordExact
  copyWait (Memref.whole main_arg3) bV cc0_scratch10.sem (Memref.isWhole_whole _).wordExact (Memref.isWhole_whole _).wordExact

/-- The waits for everything copied out. -/
def drains : Pr F PUnit := do
  copyWait (codesW 0) (Memref.whole main_v1_1) cc0_scratch12.sem (codesW_exact 0) (Memref.isWhole_whole _).wordExact
  copyWait (srowW 0) (Memref.whole main_v1_2) cc0_scratch13.sem (View.wordExact_bits rfl) (Memref.isWhole_whole _).wordExact
  copyWait (codesW 1) (Memref.whole main_v1_3) cc0_scratch12.sem (codesW_exact 1) (Memref.isWhole_whole _).wordExact
  copyWait (srowW 1) (Memref.whole main_v1_4) cc0_scratch13.sem (View.wordExact_bits rfl) (Memref.isWhole_whole _).wordExact
  copyWait (codesW 2) (Memref.whole main_v1_5) cc0_scratch12.sem (codesW_exact 2) (Memref.isWhole_whole _).wordExact
  copyWait (srowW 2) (Memref.whole main_v1_6) cc0_scratch13.sem (View.wordExact_bits rfl) (Memref.isWhole_whole _).wordExact
  loop outWait chunks ⟨⟩

/-! ## The body -/

/-- The kernel's body. -/
def body : Pr F PUnit := do
  starts
  copyWait (Memref.whole main_v0) xV cc0_scratch9.sem (Memref.isWhole_whole _).wordExact (Memref.isWhole_whole _).wordExact
  let a0 ← amaxX
  quantise 0 loadX a0
  storeRow 0 a0
  publish 0 (Memref.whole main_v1_1) (Memref.isWhole_whole _).wordExact (Memref.whole main_v1_2) (Memref.isWhole_whole _).wordExact
  paramWaits
  let a1 ← loop (chunk 0) chunks amax0
  quantise 1 loadXl a1
  storeRow 1 a1
  publish 1 (Memref.whole main_v1_3) (Memref.isWhole_whole _).wordExact (Memref.whole main_v1_4) (Memref.isWhole_whole _).wordExact
  let a2 ← loop (chunk 1) chunks amax0
  quantise 2 loadXl a2
  storeRow 2 a2
  publish 2 (Memref.whole main_v1_5) (Memref.isWhole_whole _).wordExact (Memref.whole main_v1_6) (Memref.isWhole_whole _).wordExact
  loop lastChunk chunks ⟨⟩
  drains

end Cert.KernelIdeal.Hand

end
-- ==== Proof.Xfer.lean ====
/- The rules the body is proved by: a program in sequence, a loop, and a copy started and awaited on a semaphore that
   several copies share. -/
module

public import proofs.«01_k».proof.Proof.Shape
public import Idealize.ShloMosaic.Lib.Pipeline.BigSepL

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- An assertion about this kernel's machine. -/
abbrev SP (F : FTy → Type) : Type := sProp (MT nD τ sig Unit (Elt F) ℕ (Pipeline.UD sig nD τ) ℕ)

/-- A program run by core `c` ends in `Q`. -/
abbrev WP (c : Dev nD) {α : Type} (p : Pr F α) (Q : α → SP F) : SP F :=
  wp frame (wpE (defs₀ (F := F)) Variants.none (c : Thread nD τ) none) Set.univ p Q

/-- Core `c` owns a memref at a share, reading `d` through it. -/
abbrev Own (c : Dev nD) {sp : Space} {s : Shape} {e : EltTy} (m : Memref sig .tc sp s e) (q : PosShare TreeShare) (d : s.Idx → Elt F e) : SP F :=
  owns (c : Thread nD τ) m q d

/-- The copies that share a semaphore. -/
abbrev MB (c : Dev nD) {n : ℕ} (sm : DmaSem sig) (A : Fin n → ℕ) (D : Fin n → SP F) (k u : ℕ) : SP F :=
  Transfers.MixedBatch (countersEmb (U := Pipeline.UD sig nD τ)) (c : Thread nD τ) (SemLoc.dma sm) () A D k u

/-- The core owes nothing, whatever it has waited for. -/
abbrev Owes0 (c : Dev nD) : SP F := iprop(∃ W, owes (c : Thread nD τ) 0 W)

variable (c : Dev nD)

theorem wp_pure {α : Type} (a : α) (Q : α → SP F) : Q a ⊢ WP c (pure a : Pr F α) Q := by
  show Q a ⊢ WP c (.ret a) Q
  unfold WP
  rw [wp_ret]
  iintro H; imodintro; iexact H

theorem wp_seq {α β : Type} {p : Pr F α} {k : α → Pr F β} {P : SP F} {R : α → SP F} {Q : β → SP F}
    (hp : P ⊢ WP c p R) (hk : ∀ a, R a ⊢ WP c (k a) Q) : P ⊢ WP c (p >>= k) Q := by
  unfold WP at *
  rw [wp_bind]
  exact hp.trans (wp_mono _ _ _ hk)

theorem wp_framed {α : Type} {p : Pr F α} {P R : SP F} {Q : α → SP F} (hp : P ⊢ WP c p Q) :
    iprop(P ∗ R) ⊢ WP c p (fun a => iprop(Q a ∗ R)) :=
  (show iprop(P ∗ R) ⊢ iprop(WP c p Q ∗ R) by
    iintro ⟨HP, HR⟩
    isplitl [HP]
    · iapply hp $$ HP
    · iexact HR).trans (wp_frame_r _ _ _)

theorem wp_pure_of {α : Type} {P : SP F} (a : α) (Q : α → SP F) (h : P ⊢ Q a) : P ⊢ WP c (pure a : Pr F α) Q :=
  h.trans (wp_pure c a Q)

/-- A step whose result is known, then the rest. -/
theorem wp_stepE {α β : Type} {p : Pr F α} {k : α → Pr F β} {P : SP F} {v : α} {R : SP F} {Q : β → SP F}
    (hp : P ⊢ WP c p (fun a => iprop(⌜a = v⌝ ∗ R))) : P ⊢ iprop((R -∗ WP c (k v) Q) -∗ WP c (p >>= k) Q) := by
  unfold WP at *
  rw [wp_bind]
  iintro HP HK
  iapply wp_wand_r
  isplitl [HP]
  · iapply hp $$ HP
  · iintro %a ⟨%ha, HR⟩
    subst ha
    iapply HK $$ HR

/-- A step, then the rest. -/
theorem wp_step {β : Type} {p : Pr F PUnit} {k : PUnit → Pr F β} {P R : SP F} {Q : β → SP F}
    (hp : P ⊢ WP c p (fun _ => R)) : P ⊢ iprop((R -∗ WP c (k ⟨⟩) Q) -∗ WP c (p >>= k) Q) := by
  unfold WP at *
  rw [wp_bind]
  iintro HP HK
  iapply wp_wand_r
  isplitl [HP]
  · iapply hp $$ HP
  · iintro %a HR
    iapply HK $$ HR

/-- The last step. -/
theorem wp_last {α : Type} {p : Pr F α} {P : SP F} {R Q : α → SP F}
    (hp : P ⊢ WP c p R) : P ⊢ iprop((∀ a, R a -∗ Q a) -∗ WP c p Q) := by
  unfold WP at *
  iintro HP HK
  iapply wp_wand_r
  isplitl [HP]
  · iapply hp $$ HP
  · iexact HK

/-- A loop at an invariant of the members done and the value carried. -/
theorem wp_loop0 {α β : Type} {f : β → α → Pr F α} (I : List β → α → SP F) :
    ∀ (l pre : List β) (a : α), (∀ b pre' a, (∃ post, pre ++ l = pre' ++ b :: post) → I pre' a ⊢ WP c (f b a) (I (pre' ++ [b]))) →
      I pre a ⊢ WP c (loop (F := F) f l a) (I (pre ++ l))
  | [], pre, a, _ => by
      rw [List.append_nil]
      exact wp_pure (F := F) c a (I pre)
  | b :: l, pre, a, h => by
      refine wp_seq c (h b pre a ⟨l, rfl⟩) fun r => ?_
      have ih := wp_loop0 (f := f) I l (pre ++ [b]) r (fun b' pre' a' hp => h b' pre' a' (by simpa using hp))
      rw [List.append_assoc, List.singleton_append] at ih
      exact ih

/-- A loop: the invariant `I` of the members done and the value carried, each member's own assertion `P b` turned into `Q b`. -/
theorem wp_loop {α β : Type} {f : β → α → Pr F α} (I : List β → α → SP F) (P Q : β → SP F) :
    ∀ (l pre : List β) (a : α), (∀ b pre' a, (∃ post, pre ++ l = pre' ++ b :: post) → iprop(I pre' a ∗ P b) ⊢ WP c (f b a) (fun r => iprop(I (pre' ++ [b]) r ∗ Q b))) →
      iprop(I pre a ∗ bigSepL l P) ⊢ WP c (loop (F := F) f l a) (fun r => iprop(I (pre ++ l) r ∗ bigSepL l Q))
  | [], pre, a, _ => by
      rw [List.append_nil]
      exact wp_pure (F := F) c a (fun r => iprop(I pre r ∗ bigSepL [] Q))
  | b :: l, pre, a, h => by
      have h1 := h b pre a ⟨l, rfl⟩
      have ih := fun r : α => wp_loop (f := f) I P Q l (pre ++ [b]) r (fun b' pre' a' hp => h b' pre' a' (by simpa using hp))
      refine wp_seq c (R := fun r => iprop((I (pre ++ [b]) r ∗ Q b) ∗ bigSepL l P)) ?_ fun r => ?_
      · rw [bigSepL_cons']
        refine .trans ?_ (wp_framed c h1)
        iintro ⟨HI, HP, HL⟩
        isplitl [HI HP]
        · isplitl [HI] <;> iassumption
        · iassumption
      · rw [bigSepL_cons']
        refine .trans ?_ ((wp_framed c (R := Q b) (ih r)).trans (wp_mono _ _ _ fun r' => ?_))
        · iintro ⟨⟨HI, HQ⟩, HL⟩
          isplitl [HI HL]
          · isplitl [HI] <;> iassumption
          · iassumption
        · rw [List.append_assoc, List.singleton_append]
          iintro ⟨⟨HI, HL⟩, HQ⟩
          isplitl [HI]; · iassumption
          isplitl [HQ] <;> iassumption

/-- The next copy of a semaphore's started. -/
theorem copyStart_spec {sp sp' : Space} {s : Shape} {e : EltTy} {src : Memref sig .tc sp s e} {dst : Memref sig .tc sp' s e} {sm : DmaSem sig}
    {hs : src.view.WordExact} {hd : dst.view.WordExact} {ht : DmaTarget.Typed sp (SemLoc.dma sm) (DmaTarget.here (nD := nD) (τ := τ) (p := (Proc.tc : Proc τ)) dst)}
    {n : ℕ} (A : Fin n → ℕ) (D : Fin n → SP F) (j u : ℕ) (hj : j < n) (hA : dst.view.amount (SemLoc.dma sm) = A ⟨j, hj⟩)
    (hu : u ≤ Transfers.sumTo A j) (q : PosShare TreeShare) (d : s.Idx → Elt F e)
    (hD : iprop(Own c dst fullShare d ∗ Own c src q d) ⊢ D ⟨j, hj⟩) :
    iprop(Own c src q d ∗ (∃ d', Own c dst fullShare d') ∗ MB c sm A D j u) ⊢ WP c (copyStart src dst sm hs hd ht) (fun _ => MB c sm A D (j + 1) u) := by
  unfold WP copyStart Prog.lift MB
  unfold Own owns at hD ⊢
  iintro ⟨⟨%fs, %hfs, Hs⟩, ⟨%d', %fd, -, Hd⟩, HB⟩
  have hD' : iprop((dst.view.loc (c : Thread nD τ) ↦[dst.view.set]{fullShare} (dst.view.write (Elt F) fd ((ReadAs.same (Val := Elt F)).apply (src.view.read (Elt F) fs)) Finset.univ))
      ∗ (src.view.loc (c : Thread nD τ) ↦[src.view.set]{q} fs)) ⊢ D ⟨j, hj⟩ := by
    refine .trans ?_ hD
    iintro ⟨Hd, Hs⟩
    isplitl [Hd]
    · iexists (dst.view.write (Elt F) fd ((ReadAs.same (Val := Elt F)).apply (src.view.read (Elt F) fs)) Finset.univ); isplitr
      · ipureintro
        rw [View.read_write_univ]; exact hfs
      · iexact Hd
    · iexists fs; isplitr
      · ipureintro; exact hfs
      · iexact Hs
  iapply (Transfers.wp_dmaMixedBatch (countersEmb (U := Pipeline.UD sig nD τ)) Variants.none (c : Thread nD τ) none (via := .same) (q := q) (fs := fs) (fd := fd)
    () A (D := D) (subset_refl dst.view.set) hj hA hu hD') $$ [Hs Hd HB]
  · isplitl [Hs]; · iexact Hs
    isplitl [Hd]; · iexact Hd
    iexact HB
  · iintro HB
    rw [wp_ret]
    imodintro
    iexact HB

/-- A wait that leaves copies of its semaphore's in flight. -/
theorem copyWait_some {sp sp' : Space} {s : Shape} {e : EltTy} {src : Memref sig .tc sp s e} {dst : Memref sig .tc sp' s e} {sm : DmaSem sig}
    {hs : src.view.WordExact} {hd : dst.view.WordExact} {n : ℕ} (A : Fin n → ℕ) (D : Fin n → SP F) (j u : ℕ)
    (hu : u + dst.view.dmaCredit ≤ Transfers.sumTo A j) :
    iprop(MB c sm A D j u ∗ Owes0 c) ⊢ WP c (copyWait src dst sm hs hd) (fun _ => iprop(MB c sm A D j (u + dst.view.dmaCredit) ∗ Owes0 c)) := by
  unfold WP copyWait Prog.lift MB Owes0
  iintro ⟨HB, ⟨%W, HO⟩⟩
  iapply (Transfers.wp_waitMixedBatch (countersEmb (U := Pipeline.UD sig nD τ)) Variants.none (c : Thread nD τ) none () (A := A) (D := D) rfl hu) $$ [HB HO]
  · isplitl [HB] <;> iassumption
  · iintro ⟨HB, HO⟩
    rw [wp_ret]
    imodintro
    isplitl [HB]; · iexact HB
    iexists _; iexact HO

/-- The wait that brings a semaphore's copies to their end: everything they deliver. -/
theorem copyWait_all {sp sp' : Space} {s : Shape} {e : EltTy} {src : Memref sig .tc sp s e} {dst : Memref sig .tc sp' s e} {sm : DmaSem sig}
    {hs : src.view.WordExact} {hd : dst.view.WordExact} {n : ℕ} (A : Fin n → ℕ) (D : Fin n → SP F) (u : ℕ) (hA0 : ∀ t, 0 < A t)
    (hu : u + dst.view.dmaCredit = Transfers.sumTo A n) :
    iprop(MB c sm A D n u ∗ Owes0 c) ⊢ WP c (copyWait src dst sm hs hd)
      (fun _ => iprop(bigSep Finset.univ D ∗ semVal ((c : Thread nD τ), SemLoc.dma sm) 0 ∗ Owes0 c)) := by
  unfold WP copyWait Prog.lift MB Owes0
  iintro ⟨HB, ⟨%W, HO⟩⟩
  iapply (Transfers.wp_waitMixedBatchAll (countersEmb (U := Pipeline.UD sig nD τ)) Variants.none (c : Thread nD τ) none () (A := A) (D := D) rfl hA0 hu) $$ [HB HO]
  · isplitl [HB] <;> iassumption
  · iintro ⟨HD, Hv, HO⟩
    rw [wp_ret]
    imodintro
    isplitl [HD]; · iexact HD
    isplitl [Hv]; · iexact Hv
    iexists _; iexact HO

/-- A semaphore at zero, its copies to come. -/
theorem mb_alloc {n : ℕ} (sm : DmaSem sig) (A : Fin n → ℕ) (D : Fin n → SP F) [∀ t, Storable (upEmb : UEmb _ 𝕄) (D t)] :
    (semVal ((c : Thread nD τ), SemLoc.dma sm) 0 : SP F) ⊢ iprop(|={Set.univ}=> MB c sm A D 0 0) :=
  Transfers.mixedBatch_alloc' (Lvl := ℕ) (countersEmb (U := Pipeline.UD sig nD τ)) (c : Thread nD τ) () A D

/-- A memref's two halves. -/
theorem own_halves {sp : Space} {s : Shape} {e : EltTy} (m : Memref sig .tc sp s e) (d : s.Idx → Elt F e) :
    Own c m fullShare d ⊢ iprop(Own c m fullShare.left d ∗ Own c m fullShare.right d) := by
  unfold Own owns
  iintro ⟨%f, %hf, H⟩
  ihave H2 := (pointsTo_share (by rw [PosShare.left_op_right]; exact Part.mem_some _)).1 $$ H
  icases H2 with ⟨H1, H2⟩
  isplitl [H1]
  · iexists f; isplitr; · ipureintro; exact hf
    iexact H1
  · iexists f; isplitr; · ipureintro; exact hf
    iexact H2

end Cert.KernelIdeal.Hand

end
-- ==== Proof.Vals.lean ====
/- Column blocks of a `128 × 3584` array, read and replaced, and what the views of the kernel's buffers read there. -/
module

public import proofs.«01_k».proof.Proof.Shape
public import Idealize.ShloMosaic.Lib.ValueLayout

@[expose] public section

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F] {α : Type}

/-- Column block `k` of an array. -/
def colv (d : S128x3584.Idx → α) (k : Fin 28) : S128x128.Idx → α := fun i => d ((colR k).emb i)

/-- The column block an index lies in, and its place there. -/
def blk (i : S128x3584.Idx) : Fin 28 := ⟨(i 1).val / 128, by have : (i 1).val < 3584 := (i 1).isLt; omega⟩
def ofs (i : S128x3584.Idx) : S128x128.Idx := ix2 (n0 := 128) (n1 := 128) (i 0) ⟨(i 1).val % 128, Nat.mod_lt _ (by decide)⟩

/-- The array of given column blocks. -/
def asm (v : Fin 28 → S128x128.Idx → α) : S128x3584.Idx → α := fun i => v (blk i) (ofs i)

/-- Column block `c` replaced. -/
def setCol (d : S128x3584.Idx → α) (c : Fin 28) (w : S128x128.Idx → α) : S128x3584.Idx → α :=
  fun i => if blk i = c then w (ofs i) else d i

theorem colR_emb0 (k : Fin 28) (i : S128x128.Idx) : (((colR k).emb i) 0).val = (i 0).val := by
  show 0 + 1 * (i 0).val = _; omega
theorem colR_emb1 (k : Fin 28) (i : S128x128.Idx) : (((colR k).emb i) 1).val = 128 * k.val + (i 1).val := by
  show 128 * k.val + 1 * (i 1).val = _; omega

theorem idx2_ext {n m : ℕ} {i j : (⟨2, ![n, m]⟩ : Shape).Idx} (h0 : (i 0).val = (j 0).val) (h1 : (i 1).val = (j 1).val) : i = j := by
  funext a; apply Fin.ext
  match a with
  | ⟨0, _⟩ => exact h0
  | ⟨1, _⟩ => exact h1

theorem blk_emb (k : Fin 28) (i : S128x128.Idx) : blk ((colR k).emb i) = k := by
  apply Fin.ext
  show (((colR k).emb i) 1).val / 128 = k.val
  rw [colR_emb1]; have : (i 1).val < 128 := (i 1).isLt; omega
theorem ofs_emb (k : Fin 28) (i : S128x128.Idx) : ofs ((colR k).emb i) = i := by
  apply idx2_ext
  · show (((colR k).emb i) 0).val = _; rw [colR_emb0]
  · show (((colR k).emb i) 1).val % 128 = _; rw [colR_emb1]; have : (i 1).val < 128 := (i 1).isLt; omega
theorem emb_blk (i : S128x3584.Idx) : (colR (blk i)).emb (ofs i) = i := by
  apply idx2_ext
  · rw [colR_emb0]; rfl
  · rw [colR_emb1]; show 128 * ((i 1).val / 128) + (i 1).val % 128 = _; omega

theorem colv_asm (v : Fin 28 → S128x128.Idx → α) (k : Fin 28) : colv (asm v) k = v k := by
  funext i; show v (blk _) (ofs _) = _; rw [blk_emb, ofs_emb]
theorem eq_asm {d : S128x3584.Idx → α} {v : Fin 28 → S128x128.Idx → α} (h : ∀ k, colv d k = v k) : d = asm v := by
  funext i; show d i = v (blk i) (ofs i); rw [← h]; show _ = d _; rw [emb_blk]
theorem colv_setCol (d : S128x3584.Idx → α) (c : Fin 28) (w : S128x128.Idx → α) (k : Fin 28) :
    colv (setCol d c w) k = if k = c then w else colv d k := by
  funext i; show (if blk _ = c then w (ofs _) else d _) = _
  rw [blk_emb, ofs_emb]; split <;> rfl

/-- What a view reads once a column block has been stored through it. -/
theorem read_store_col {κ : Kind} {sp : Space} {e : EltTy} (v : View sig κ sp S128x3584 e) (c : Fin 28) (f : v.ty.Contents (Elt F))
    (w : S128x128.Idx → Elt F e) : v.read (Elt F) ((v.slice (colR c)).write (Elt F) f w Finset.univ) = setCol (v.read (Elt F) f) c w := by
  funext i
  rw [View.read_apply]
  by_cases h : blk i = c
  · have he : v.emb i = (v.slice (colR c)).emb (ofs i) := by
      show v.emb i = v.emb ((colR c).emb (ofs i)); rw [← h, emb_blk]
    rw [he, View.write_emb_of_mem _ _ (Finset.mem_univ _)]
    unfold setCol; rw [if_pos h]
    exact cast_cast _ _ _ |>.trans (cast_eq _ _)
  · rw [View.write_of_not_mem]
    · unfold setCol; rw [if_neg h]; rfl
    · intro hm
      rw [View.setOn_univ, View.set, Finset.mem_map] at hm
      obtain ⟨x, -, hx⟩ := hm
      have hx' : (colR c).emb x = i := v.emb.injective hx
      exact h (by rw [← hx', blk_emb])

/-! ## The codes' window -/

theorem codeR_emb (l : Fin 3) (c : Fin 28) (i j : Fin 128) (a : Fin 3) :
    ((((codeR l c).emb (ix3 (n0 := 1) 0 i j)) a : Fin _) : ℕ) = ![l.val, i.val, 128 * c.val + j.val] a := by
  match a with
  | ⟨0, _⟩ => show l.val + 1 * 0 = l.val; omega
  | ⟨1, _⟩ => show 0 + 1 * i.val = i.val; omega
  | ⟨2, _⟩ => show 128 * c.val + 1 * j.val = 128 * c.val + j.val; omega

theorem codesW_emb (l : Fin 3) (i : Fin 128) (j : Fin 3584) (a : Fin 3) :
    ((((codesW l).view.emb (ix2 i j)) a : Fin _) : ℕ) = ![l.val, i.val, j.val] a := by
  have h : (codesW l).view.emb (ix2 i j) = (cwR l).emb (ix3 (n0 := 1) 0 i j) := by
    show (cwR l).emb (Shape.reshapeEquiv _ (ix2 i j)) = _
    rw [reshapeEquiv_ix2_1ab]; rfl
  rw [h]
  match a with
  | ⟨0, _⟩ => show l.val + 1 * 0 = l.val; omega
  | ⟨1, _⟩ => show 0 + 1 * i.val = i.val; omega
  | ⟨2, _⟩ => show 0 + 1 * j.val = j.val; omega

theorem codesW_col (l : Fin 3) (c : Fin 28) (x : S128x128.Idx) :
    (codesW l).view.emb ((colR c).emb x) = (codeR l c).emb (ix3 (n0 := 1) 0 (x 0) (x 1)) := by
  have e : (colR c).emb x = ix2 (n0 := 128) (n1 := 3584) (x 0) ⟨128 * c.val + (x 1).val, by have : (x 1).val < 128 := (x 1).isLt; have := c.isLt; omega⟩ := by
    apply idx2_ext
    · rw [colR_emb0]
    · rw [colR_emb1]
  rw [e]
  funext a; apply Fin.ext
  exact (codesW_emb l _ _ a).trans (codeR_emb l c _ _ a).symm

/-- A column block of codes stored through the buffer is one stored through the layer's window. -/
theorem read_store_code (l : Fin 3) (c : Fin 28) (f : S3x128x3584.Idx → Elt F .fp8e4m3) (w : S128x128.Idx → Elt F .fp8e4m3) :
    (codesW l).view.read (Elt F) ((codesV.access (codeR l c)).write (Elt F) f (shapeCast S1x128x128 w shapeCasts_S128x128_S1x128x128) Finset.univ)
      = setCol ((codesW l).view.read (Elt F) f) c w := by
  funext i
  rw [View.read_apply]
  by_cases h : blk i = c
  · have he : (codesW l).view.emb i = (codesV.access (codeR l c)).emb (ix3 (n0 := 1) 0 ((ofs i) 0) ((ofs i) 1)) := by
      rw [show (codesV.access (codeR l c)).emb (ix3 (n0 := 1) 0 ((ofs i) 0) ((ofs i) 1)) = (codeR l c).emb (ix3 (n0 := 1) 0 ((ofs i) 0) ((ofs i) 1)) from rfl,
        ← codesW_col, ← h, emb_blk]
    rw [he, View.write_emb_of_mem _ _ (Finset.mem_univ _)]
    unfold setCol; rw [if_pos h]
    refine (shapeCast_ab_1ab_apply (a := 128) (b := 128) w _ 0 ((ofs i) 0) ((ofs i) 1)).trans ?_
    exact congrArg w (idx2_ext rfl rfl)
  · rw [View.write_of_not_mem]
    · unfold setCol; rw [if_neg h]; rfl
    · intro hm
      rw [View.setOn_univ, View.set, Finset.mem_map] at hm
      obtain ⟨x, -, hx⟩ := hm
      apply h
      apply Fin.ext
      have h2 : (((codeR l c).emb x 2 : Fin _) : ℕ) = (i 1).val := by
        have := congrArg (fun y : S3x128x3584.Idx => (y 2).val) hx
        refine this.trans ?_
        have hi : i = ix2 (n0 := 128) (n1 := 3584) (i 0) (i 1) := idx2_ext rfl rfl
        have := codesW_emb l (i 0) (i 1) 2
        rw [← hi] at this
        exact this
      have hx2 : (x 2).val < 128 := (x 2).isLt
      show (i 1).val / 128 = c.val
      rw [← h2]
      show (128 * c.val + 1 * (x 2).val) / 128 = c.val
      omega

/-! ## Sets of elements -/

theorem colR_sub_owR (j : Fin 7) (k : Fin 4) : (outV.access (colR (colOf j k))).set ⊆ (outW j).view.set := by
  intro y hy
  rw [View.set, Finset.mem_map] at hy ⊢
  obtain ⟨x, -, rfl⟩ := hy
  refine ⟨ix2 (n0 := 128) (n1 := 512) (x 0) ⟨128 * k.val + (x 1).val, by have : (x 1).val < 128 := (x 1).isLt; have := k.isLt; omega⟩, Finset.mem_univ _, ?_⟩
  apply idx2_ext (n := 128) (m := 3584)
  · show 0 + 1 * (x 0).val = 0 + 1 * (x 0).val; rfl
  · show 512 * j.val + 1 * (128 * k.val + (x 1).val) = 128 * (4 * j.val + k.val) + 1 * (x 1).val; omega

theorem codeR_sub_cwR (l : Fin 3) (c : Fin 28) : (codesV.access (codeR l c)).set ⊆ (codesW l).view.set := by
  intro y hy
  rw [View.set, Finset.mem_map] at hy ⊢
  obtain ⟨x, -, rfl⟩ := hy
  refine ⟨(colR c).emb (ix2 (n0 := 128) (n1 := 128) (x 1) (x 2)), Finset.mem_univ _, ?_⟩
  rw [codesW_col]
  show (codeR l c).emb _ = (codeR l c).emb x
  congr 1
  funext a; apply Fin.ext
  match a with
  | ⟨0, _⟩ => have : (x 0).val < 1 := (x 0).isLt; show 0 = (x 0).val; omega
  | ⟨1, _⟩ => rfl
  | ⟨2, _⟩ => rfl

theorem cwR_set (l : Fin 3) : (codesV.access (cwR l)).set = (codesW l).view.set := (View.set_reshape _ _).symm
theorem wdstR_set (l : Fin 3) (j : Fin 7) : (wV.access (wdstR l j)).set = (wDst l j).view.set := (View.set_reshape _ _).symm

/-- A chunk of the output read through its window, from its column blocks. -/
theorem outW_read (j : Fin 7) (f : S128x3584.Idx → Elt F .bf16) (v : Fin 28 → S128x128.Idx → Elt F .bf16)
    (h : ∀ k : Fin 4, colv f (colOf j k) = v (colOf j k)) : (outW j).view.read (Elt F) f = (outHW j).view.read (Elt F) (asm v) := by
  funext i
  show f ((owR j).emb i) = asm v ((owR j).emb i)
  have h1 : (((owR j).emb i) 1).val = 512 * j.val + (i 1).val := by show 512 * j.val + 1 * (i 1).val = _; omega
  have hi : (i 1).val < 512 := (i 1).isLt
  have hb : blk ((owR j).emb i) = colOf j ⟨(i 1).val / 128, by omega⟩ := by
    apply Fin.ext; show (((owR j).emb i) 1).val / 128 = 4 * j.val + (i 1).val / 128
    rw [h1]; omega
  show _ = v (blk _) (ofs _)
  rw [hb, ← h, ← hb]
  show _ = f ((colR _).emb _)
  rw [emb_blk]

end Cert.KernelIdeal.Hand

end
-- ==== Proof.Model.lean ====
/- What the kernel computes, column block by column block, from the contents of its four operands. -/
module

public import proofs.«01_k».proof.Proof.Vals

@[expose] public section

noncomputable section

namespace Cert.KernelIdeal.Hand

open Cert.KernelIdeal Cert.KernelIdeal.Gen
open Idealize.ShloMosaic Idealize.ShloMosaic.TcCoe

variable {F : FTy → Type} [FloatOps F]

/-- Features in column blocks. -/
abbrev Feat (F : FTy → Type) : Type := Fin 28 → FVec F S128x128 .f32

/-- The kernel's operands: the input, the weights, their scales, the biases. -/
structure Args (F : FTy → Type) where
  x : FVec F S128x3584 .bf16
  w : FVec F S3x3584x3584 .fp8e4m3
  ws : FVec F S3x3584 .f32
  b : FVec F S3x3584 .f32

variable (X : Args F)

def Args.x0 : Feat F := fun k => extf .f32 (colv X.x k) bitsLt_bf16_f32

/-- The lane maxima over column blocks. -/
def amaxL (v : Feat F) (l : List (Fin 28)) (a : FVec F S128x128 .f32) : FVec F S128x128 .f32 :=
  l.foldl (fun a k => maximumf a (absf (v k))) a
def amaxOf (v : Feat F) : FVec F S128x128 .f32 := amaxL v cols amax0

/-- The codes of features, at a scale's inverse. -/
def codesAt (inv : FVec F S128x128 .f32) (v : Feat F) : FVec F S128x3584 .fp8e4m3 := asm fun k => codeOf inv (v k)
def codesM (v : Feat F) : FVec F S128x3584 .fp8e4m3 := codesAt (invOf (amaxOf v)) v

/-- Weight chunk `(l, j)`. -/
def Args.wm (l : Fin 3) (j : Fin 7) : FVec F S3584x512 .fp8e4m3 := (wSrc l j).view.read (Elt F) X.w

/-- Column block `k` of row `l` of a parameter table. -/
def rowv (f : FVec F S3x3584 .f32) (l : Fin 3) (k : Fin 28) : FVec F S1x128 .f32 := fun i => f ((rowR l k).emb i)

/-- Column `k` of chunk `j` of the next features, from the chunk's product. -/
def Args.colNext (l : Fin 3) (j : Fin 7) (k : Fin 4) (acc : FVec F S128x512 .f32) (s : FVec F S128x128 .f32) (xl : FVec F S128x128 .f32) : FVec F S128x128 .f32 :=
  addf (mulf (X.x0 (colOf j k)) (addf (mulf (mulf (extractStridedSlice S128x128 ![0, 128 * k.val] acc (acc_slices k)) s)
    (broadcastTo S128x128 (rowv X.ws l (colOf j k)) broadcasts_S1x128_S128x128)) (broadcastTo S128x128 (rowv X.b l (colOf j k)) broadcasts_S1x128_S128x128))) xl

def Args.acc (l : Fin 3) (v : Feat F) (j : Fin 7) : FVec F S128x512 .f32 := prod (codesM v) (X.wm l j)

def Args.nextAt (l : Fin 3) (v : Feat F) (j : Fin 7) (k : Fin 4) : FVec F S128x128 .f32 :=
  X.colNext l j k (X.acc l v j) (scaleOf (amaxOf v)) (v (colOf j k))

def jOf (c : Fin 28) : Fin 7 := ⟨c.val / 4, by omega⟩
def kOf (c : Fin 28) : Fin 4 := ⟨c.val % 4, by omega⟩

/-- The next features. -/
def Args.next (l : Fin 3) (v : Feat F) : Feat F := fun c => X.nextAt l v (jOf c) (kOf c)

theorem Args.next_colOf (l : Fin 3) (v : Feat F) (j : Fin 7) (k : Fin 4) : X.next l v (colOf j k) = X.nextAt l v j k := by
  have hj : jOf (colOf j k) = j := by apply Fin.ext; show (4 * j.val + k.val) / 4 = _; omega
  have hk : kOf (colOf j k) = k := by apply Fin.ext; show (4 * j.val + k.val) % 4 = _; omega
  show X.nextAt l v (jOf (colOf j k)) (kOf (colOf j k)) = _
  rw [hj, hk]

def Args.x1 : Feat F := X.next 0 X.x0
def Args.x2 : Feat F := X.next 1 X.x1
def Args.x3 : Feat F := X.next 2 X.x2

/-- The features entering layer `l`. -/
def Args.feat (l : Fin 3) : Feat F := match l with
  | 0 => X.x0
  | 1 => X.x1
  | 2 => X.x2

/-- The output. -/
def Args.outF : Fin 28 → FVec F S128x128 .bf16 := fun k => truncf .bf16 (X.x3 k) bitsLt_bf16_f32
def Args.out : FVec F S128x3584 .bf16 := asm X.outF

/-- The column blocks of the first chunks. -/
def colsOf (l : List (Fin 7)) : List (Fin 28) := l.flatMap fun j => [colOf j 0, colOf j 1, colOf j 2, colOf j 3]

theorem colsOf_chunks : colsOf chunks = cols := by decide

end Cert.KernelIdeal.Hand

end
-- ==== Proof.Steps.lean ====
/- The steps of the body that touch the staging buffers: each of them, run on its buffers, leaves the value of `Model.lean`. -/
module

public import proofs.«01_k».proof.Proof.Xfer
public import proofs.«01_k».proof.Proof.Model

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

theorem lane_emb (i : S128x128.Idx) : laneR.emb i = i := by
  apply idx2_ext
  · show 0 + 1 * (i 0).val = _; omega
  · show 0 + 1 * (i 1).val = _; omega

theorem lane_sub {e : EltTy} (m : Memref sig .tc .vmem S128x128 e) : (m.access laneR).set ⊆ m.view.set := by
  intro y hy
  rw [View.set, Finset.mem_map] at hy ⊢
  obtain ⟨x, -, rfl⟩ := hy
  exact ⟨laneR.emb x, Finset.mem_univ _, rfl⟩

theorem lane_write (f : S128x128.Idx → Elt F .f32) (w : S128x128.Idx → Elt F .f32) :
    sbV.view.read (Elt F) ((sbV.access laneR).write (Elt F) f w Finset.univ) = w := by
  have h := View.read_write_univ (Val := Elt F) (v := sbV.access laneR) f w
  funext i
  have hi := congrFun h i
  rw [View.read_apply] at hi ⊢
  rw [show (sbV.access laneR).emb i = sbV.view.emb i from lane_emb i] at hi
  exact hi

/-! ## A load, a store -/

theorem load_any {s : Shape} {e : EltTy} {m : Memref sig .tc .vmem s e} {r : LoadRect s} {hl : m.view.LoadsAt r}
    {S : Finset (Idx (m.view.loc (c : Thread nD τ)))} (q : PosShare TreeShare) (f : Buf (Elt F) (m.view.loc (c : Thread nD τ))) (hS : m.view.setOn r.set ⊆ S) :
    (m.view.loc (c : Thread nD τ) ↦[S]{q} f : SP F) ⊢ WP c (Prog.lift (.load m r hl))
      (fun v => iprop(⌜v = m.view.readAt (Elt F) r f⌝ ∗ (m.view.loc (c : Thread nD τ) ↦[S]{q} f))) := by
  unfold WP Prog.lift
  iintro H
  iapply (wp_load Variants.none (c : Thread nD τ) none Set.univ hS) $$ H
  iintro H
  rw [wp_ret]
  imodintro
  isplitr
  · ipureintro; rfl
  · iexact H

theorem store_any {s : Shape} {e : EltTy} {m : Memref sig .tc .vmem s e} {r : Rect s} {w : r.shape.Idx → Elt F e} {hx : (m.access r).Stores Finset.univ}
    {hm : (Finset.univ : Finset r.shape.Idx) = Finset.univ ∨ ∀ a, r.stride a = 1}
    {S : Finset (Idx (m.view.loc (c : Thread nD τ)))} (f : Buf (Elt F) (m.view.loc (c : Thread nD τ))) (hS : (m.access r).set ⊆ S) :
    (m.view.loc (c : Thread nD τ) ↦[S]{fullShare} f : SP F) ⊢ WP c (Prog.lift (.store m r w Finset.univ hx hm))
      (fun _ => (m.view.loc (c : Thread nD τ) ↦[S]{fullShare} (m.access r).write (Elt F) f w Finset.univ)) := by
  unfold WP Prog.lift
  iintro H
  iapply (wp_store Variants.none (c : Thread nD τ) none Set.univ (m := m) (r := r) (f := f) hS) $$ H
  iintro H
  rw [wp_ret]
  imodintro
  iexact H

theorem load_own {s : Shape} {e : EltTy} {m : Memref sig .tc .vmem s e} {r : LoadRect s} {hl : m.view.LoadsAt r}
    (q : PosShare TreeShare) (d : s.Idx → Elt F e) :
    Own c m q d ⊢ WP c (Prog.lift (.load m r hl)) (fun v => iprop(⌜v = fun x => d (r.idx x)⌝ ∗ Own c m q d)) := by
  unfold Own owns
  iintro ⟨%f, %hf, H⟩
  iapply (wp_mono _ _ _ (Q := fun v => iprop(⌜v = m.view.readAt (Elt F) r f⌝ ∗ (m.view.loc (c : Thread nD τ) ↦[m.view.set]{q} f))) fun v => ?_)
  rotate_left
  · iapply (load_any c q f (View.setOn_subset_set m.view _)) $$ H
  · iintro ⟨%hv, H⟩
    isplitr
    · ipureintro; rw [hv, ← hf]; rfl
    · iexists f; isplitr
      · ipureintro; exact hf
      · iexact H

/-- A store of the whole lane buffer. -/
theorem store_sb (d w : FVec F S128x128 .f32) {hx : (sbV.access laneR).Stores Finset.univ}
    {hm : (Finset.univ : Finset laneR.shape.Idx) = Finset.univ ∨ ∀ a, laneR.stride a = 1} :
    Own c sbV fullShare d ⊢ WP c (Prog.lift (.store sbV laneR w Finset.univ hx hm)) (fun _ => Own c sbV fullShare w) := by
  unfold Own owns
  iintro ⟨%f, %hf, HS⟩
  iapply (wp_last c (store_any c (m := sbV) (r := laneR) (S := sbV.view.set) f (lane_sub sbV))) $$ HS
  iintro %_ HS
  iexists _
  isplitr
  rotate_left; · iexact HS
  ipureintro
  exact lane_write f w

/-- A store of a column block of the features. -/
theorem store_xl (k : Fin 28) (d : FVec F S128x3584 .f32) (w : FVec F S128x128 .f32) {hx : (xlV.access (colR k)).Stores Finset.univ}
    {hm : (Finset.univ : Finset (colR k).shape.Idx) = Finset.univ ∨ ∀ a, (colR k).stride a = 1} :
    Own c xlV fullShare d ⊢ WP c (Prog.lift (.store xlV (colR k) w Finset.univ hx hm)) (fun _ => Own c xlV fullShare (setCol d k w)) := by
  unfold Own owns
  iintro ⟨%f, %hf, HS⟩
  iapply (wp_last c (store_any c (m := xlV) (r := colR k) (S := xlV.view.set) f (fun y hy => by
    rw [View.set, Finset.mem_map] at hy ⊢
    obtain ⟨x, -, rfl⟩ := hy
    exact ⟨(colR k).emb x, Finset.mem_univ _, rfl⟩))) $$ HS
  iintro %_ HS
  iexists _
  isplitr
  rotate_left; · iexact HS
  ipureintro
  rw [← hf]
  exact read_store_col xlV.view k f w

/-! ## The column loads -/

theorem loadX_spec (X : Args F) (k : Fin 28) :
    Own c xV fullShare X.x ⊢ WP c (loadX k) (fun r => iprop(⌜r = X.x0 k⌝ ∗ Own c xV fullShare X.x)) := by
  unfold loadX
  refine wp_seq c (load_own c (m := xV) (r := (colR k).toLoadRect) fullShare X.x) fun v => ?_
  refine .trans ?_ (wp_pure c _ (fun r => iprop(⌜r = X.x0 k⌝ ∗ Own c xV fullShare X.x)))
  iintro ⟨%hv, H⟩
  isplitr
  · ipureintro; rw [hv]; rfl
  · iexact H

theorem loadXl_spec (d : FVec F S128x3584 .f32) (k : Fin 28) :
    Own c xlV fullShare d ⊢ WP c (loadXl k) (fun r => iprop(⌜r = colv d k⌝ ∗ Own c xlV fullShare d)) := by
  unfold loadXl
  refine wp_seq c (load_own c (m := xlV) (r := (colR k).toLoadRect) fullShare d) fun v => ?_
  refine .trans ?_ (wp_pure c _ (fun r => iprop(⌜r = colv d k⌝ ∗ Own c xlV fullShare d)))
  iintro ⟨%hv, H⟩
  isplitr
  · ipureintro; rw [hv]; rfl
  · iexact H

/-- The lane maxima of the input. -/
theorem amaxX_spec (X : Args F) :
    Own c xV fullShare X.x ⊢ WP c amaxX (fun r => iprop(⌜r = amaxOf X.x0⌝ ∗ Own c xV fullShare X.x)) := by
  refine .trans ?_ (wp_loop0 c (f := amaxStep) (fun pre a => iprop(⌜a = amaxL X.x0 pre amax0⌝ ∗ Own c xV fullShare X.x)) cols [] amax0 ?_)
  · iintro H
    isplitr
    · ipureintro; rfl
    · iexact H
  · intro k pre a _
    iintro ⟨%ha, H⟩
    unfold amaxStep
    iapply (wp_stepE c (loadX_spec c X k)) $$ H
    iintro H
    iapply (wp_pure c _ (fun r => iprop(⌜r = amaxL X.x0 (pre ++ [k]) amax0⌝ ∗ Own c xV fullShare X.x)))
    isplitr
    · ipureintro; rw [ha]; unfold amaxL; rw [List.foldl_append]; rfl
    · iexact H

/-! ## The codes of a layer -/

theorem codeStep_spec (l : Fin 3) (ld : Fin 28 → Pr F (FVec F S128x128 .f32)) (inv : FVec F S128x128 .f32) (R : SP F) (v : Feat F) (k : Fin 28)
    (hld : R ⊢ WP c (ld k) (fun r => iprop(⌜r = v k⌝ ∗ R))) (d : FVec F S128x3584 .fp8e4m3) :
    iprop(R ∗ Own c (codesW l) fullShare d) ⊢ WP c (codeStep l ld inv k ⟨⟩)
      (fun _ => iprop(R ∗ Own c (codesW l) fullShare (setCol d k (codeOf inv (v k))))) := by
  unfold codeStep
  iintro ⟨HR, HC⟩
  iapply (wp_stepE c hld) $$ HR
  iintro HR
  unfold Own owns
  icases HC with ⟨%f, %hf, HC⟩
  iapply (wp_stepE c (load_any c (m := codesV) (r := (codeR l k).toLoadRect) fullShare f
    (by have h := codeR_sub_cwR l k; rwa [View.set_slice] at h))) $$ HC
  iintro HC
  iapply (wp_last c (store_any c (m := codesV) (r := codeR l k) f (codeR_sub_cwR l k))) $$ HC
  iintro %_ HC
  isplitl [HR]; · iexact HR
  iexists _
  isplitr
  rotate_left; · iexact HC
  ipureintro
  rw [read_store_code, hf]

/-- A layer's codes. -/
theorem codeLoop_spec (l : Fin 3) (ld : Fin 28 → Pr F (FVec F S128x128 .f32)) (inv : FVec F S128x128 .f32) (R : SP F) (v : Feat F)
    (hld : ∀ k, R ⊢ WP c (ld k) (fun r => iprop(⌜r = v k⌝ ∗ R))) :
    iprop(R ∗ ∃ d, Own c (codesW l) fullShare d) ⊢ WP c (loop (codeStep l ld inv) cols ⟨⟩)
      (fun _ => iprop(R ∗ Own c (codesW l) fullShare (codesAt inv v))) := by
  iintro ⟨HR, ⟨%d, HC⟩⟩
  iapply (wp_last c (wp_loop0 c (f := codeStep l ld inv) (fun pre _ => iprop(∃ d, ⌜∀ k ∈ pre, colv d k = codeOf inv (v k)⌝ ∗ R ∗ Own c (codesW l) fullShare d)) cols [] ⟨⟩ ?_)) $$ [HR HC]
  · intro k pre a _
    iintro ⟨%d, %hd, HR, HC⟩
    iapply (wp_last c (codeStep_spec c l ld inv R v k (hld k) d)) $$ [HR HC]
    · isplitl [HR] <;> iassumption
    iintro %_ ⟨HR, HC⟩
    iexists _
    isplitr
    rotate_left
    · isplitl [HR]; · iexact HR
      iexact HC
    ipureintro
    intro k' hk'
    rw [colv_setCol]
    by_cases h : k' = k
    · rw [if_pos h, h]
    · rw [if_neg h]
      rcases List.mem_append.mp hk' with h' | h'
      · exact hd k' h'
      · exact absurd (List.mem_singleton.mp h') h
  · iexists d
    isplitr
    · ipureintro; intro k hk; exact absurd hk List.not_mem_nil
    isplitl [HR] <;> iassumption
  iintro %_ ⟨%d', %hd, HR, HC⟩
  isplitl [HR]; · iexact HR
  have he : d' = codesAt inv v := eq_asm fun k => hd k (by revert k; decide)
  subst he
  iexact HC

/-- A layer's scale in every lane, and its codes. -/
theorem quantise_spec (l : Fin 3) (ld : Fin 28 → Pr F (FVec F S128x128 .f32)) (a : FVec F S128x128 .f32) (R : SP F) (v : Feat F)
    (hld : ∀ k, R ⊢ WP c (ld k) (fun r => iprop(⌜r = v k⌝ ∗ R))) :
    iprop(R ∗ (∃ d, Own c sbV fullShare d) ∗ ∃ d, Own c (codesW l) fullShare d) ⊢ WP c (quantise l ld a)
      (fun _ => iprop(R ∗ Own c sbV fullShare (scaleOf a) ∗ Own c (codesW l) fullShare (codesAt (invOf a) v))) := by
  unfold quantise
  iintro ⟨HR, ⟨%d, HS⟩, HC⟩
  iapply (wp_stepE c (load_own c (m := sbV) (r := laneR.toLoadRect) fullShare d)) $$ HS
  iintro HS
  iapply (wp_step c (store_sb c d _)) $$ HS
  iintro HS
  iapply (wp_last c (codeLoop_spec c l ld (invOf a) R v hld)) $$ [HR HC]
  · isplitl [HR]; · iexact HR
    iexact HC
  iintro %_ ⟨HR, HC⟩
  isplitl [HR]; · iexact HR
  isplitl [HS]
  · rw [shapeCast_self]; iexact HS
  · iexact HC

/-- A layer's scale row. -/
theorem storeRow_spec (l : Fin 3) (a : FVec F S128x128 .f32) :
    iprop(∃ d, Own c (srowW l) fullShare d) ⊢ WP c (storeRow l a) (fun _ => Own c (srowW l) fullShare (scaleRow a)) := by
  unfold storeRow Own owns
  iintro ⟨%d, %f, %hf, HS⟩
  iapply (wp_stepE c (load_any c (m := srowV) (r := (srowR l).toLoadRect) fullShare f (View.set_slice srowV.view (srowR l)).symm.subset)) $$ HS
  iintro HS
  iapply (wp_last c (store_any c (m := srowV) (r := srowR l) f (subset_refl _))) $$ HS
  iintro %_ HS
  iexists _
  isplitr
  rotate_left; · iexact HS
  ipureintro
  exact View.read_write_univ _ _

/-! ## A chunk's product -/

theorem dotChunk_spec (l : Fin 3) (j : Fin 7) (q : PosShare TreeShare) (cm : FVec F S128x3584 .fp8e4m3) (wm : FVec F S3584x512 .fp8e4m3) :
    iprop(Own c (codesW l) q cm ∗ Own c (wDst l j) fullShare wm) ⊢ WP c (dotChunk l j)
      (fun r => iprop(⌜r = prod cm wm⌝ ∗ Own c (codesW l) q cm ∗ Own c (wDst l j) fullShare wm)) := by
  unfold dotChunk Own owns
  iintro ⟨⟨%f, %hf, HC⟩, ⟨%g, %hg, HW⟩⟩
  iapply (wp_stepE c (load_any c (m := codesV) (r := (cwR l).toLoadRect) q f (by have h := (cwR_set l).subset; rwa [View.set_slice] at h))) $$ HC
  iintro HC
  iapply (wp_stepE c (load_any c (m := wV) (r := (wdstR l j).toLoadRect) fullShare g (by have h := (wdstR_set l j).subset; rwa [View.set_slice] at h))) $$ HW
  iintro HW
  iapply (wp_pure c _ _)
  isplitr
  · ipureintro; rw [← hf, ← hg]; rfl
  isplitl [HC]
  · iexists f; isplitr
    · ipureintro; exact hf
    · iexact HC
  · iexists g; isplitr
    · ipureintro; exact hg
    · iexact HW

/-! ## The column steps of a chunk -/

/-- What the column steps only read: the input, a scale in every lane, the weights' scales, the biases. -/
def Par (X : Args F) (s : FVec F S128x128 .f32) : SP F :=
  iprop(Own c xV fullShare X.x ∗ Own c sbV fullShare s ∗ Own c wsV fullShare X.ws ∗ Own c bV fullShare X.b)

/-- The features' column block that a layer adds: layer 0 takes the input's. -/
def Prev (X : Args F) (l : Fin 3) (d : FVec F S128x3584 .f32) (k : Fin 28) : FVec F S128x128 .f32 :=
  match l with
  | 0 => X.x0 k
  | _ => colv d k

theorem colVal_spec (X : Args F) (s : FVec F S128x128 .f32) (l : Fin 3) (j : Fin 7) (k : Fin 4) (acc : FVec F S128x512 .f32) (d : FVec F S128x3584 .f32) :
    iprop(Par c X s ∗ Own c xlV fullShare d) ⊢ WP c (colVal l j k acc)
      (fun r => iprop(⌜r = X.colNext l j k acc s (Prev X l d (colOf j k))⌝ ∗ Par c X s ∗ Own c xlV fullShare d)) := by
  unfold colVal Par
  iintro ⟨⟨HX, HS, HW, HB⟩, HL⟩
  iapply (wp_stepE c (loadX_spec c X (colOf j k))) $$ HX
  iintro HX
  iapply (wp_stepE c (load_own c (m := sbV) (r := laneR.toLoadRect) fullShare s)) $$ HS
  iintro HS
  iapply (wp_stepE c (load_own c (m := wsV) (r := (rowR l (colOf j k)).toLoadRect) fullShare X.ws)) $$ HW
  iintro HW
  iapply (wp_stepE c (load_own c (m := bV) (r := (rowR l (colOf j k)).toLoadRect) fullShare X.b)) $$ HB
  iintro HB
  have hlane : (fun x => s (laneR.toLoadRect.idx x)) = s := funext fun x => congrArg s (lane_emb x)
  rw [hlane]
  match l with
  | 0 =>
    iapply (wp_stepE c (wp_pure_of c (P := Own c xlV fullShare d) (X.x0 (colOf j k)) (fun r => iprop(⌜r = X.x0 (colOf j k)⌝ ∗ Own c xlV fullShare d)) (by
      iintro H; isplitr
      · ipureintro; rfl
      · iexact H))) $$ HL
    iintro HL
    iapply (wp_pure c _ _)
    isplitr
    · ipureintro; rfl
    isplitr [HL]
    · isplitl [HX]; · iexact HX
      isplitl [HS]; · iexact HS
      isplitl [HW]; · iexact HW
      iexact HB
    · iexact HL
  | 1 =>
    iapply (wp_stepE c (loadXl_spec c d (colOf j k))) $$ HL
    iintro HL
    iapply (wp_pure c _ _)
    isplitr
    · ipureintro; rfl
    isplitr [HL]
    · isplitl [HX]; · iexact HX
      isplitl [HS]; · iexact HS
      isplitl [HW]; · iexact HW
      iexact HB
    · iexact HL
  | 2 =>
    iapply (wp_stepE c (loadXl_spec c d (colOf j k))) $$ HL
    iintro HL
    iapply (wp_pure c _ _)
    isplitr
    · ipureintro; rfl
    isplitr [HL]
    · isplitl [HX]; · iexact HX
      isplitl [HS]; · iexact HS
      isplitl [HW]; · iexact HW
      iexact HB
    · iexact HL

theorem colStep_spec (X : Args F) (s : FVec F S128x128 .f32) (l : Fin 3) (j : Fin 7) (k : Fin 4) (acc : FVec F S128x512 .f32) (d : FVec F S128x3584 .f32)
    (a xn : FVec F S128x128 .f32) (hxn : X.colNext l j k acc s (Prev X l d (colOf j k)) = xn) :
    iprop(Par c X s ∗ Own c xlV fullShare d) ⊢ WP c (colStep l j acc k a)
      (fun r => iprop(⌜r = maximumf a (absf xn)⌝ ∗ Par c X s ∗ Own c xlV fullShare (setCol d (colOf j k) xn))) := by
  subst hxn
  unfold colStep
  iintro H
  iapply (wp_stepE c (colVal_spec c X s l j k acc d)) $$ H
  iintro ⟨HP, HL⟩
  iapply (wp_stepE c (loadXl_spec c d (colOf j k))) $$ HL
  iintro HL
  iapply (wp_step c (store_xl c (colOf j k) d _)) $$ HL
  iintro HL
  iapply (wp_pure c _ _)
  isplitr
  · ipureintro; rfl
  isplitl [HP]; · iexact HP
  rw [shapeCast_self]; iexact HL

theorem lastStep_spec (X : Args F) (s : FVec F S128x128 .f32) (j : Fin 7) (k : Fin 4) (acc : FVec F S128x512 .f32) (d : FVec F S128x3584 .f32)
    (f : FVec F S128x3584 .bf16) (xn : FVec F S128x128 .f32) (hxn : X.colNext 2 j k acc s (Prev X 2 d (colOf j k)) = xn) :
    iprop((Par c X s ∗ Own c xlV fullShare d) ∗ (outV.view.loc (c : Thread nD τ) ↦[(outW j).view.set]{fullShare} f)) ⊢ WP c (lastStep j acc k ⟨⟩)
      (fun _ => iprop((Par c X s ∗ Own c xlV fullShare d) ∗ (outV.view.loc (c : Thread nD τ) ↦[(outW j).view.set]{fullShare}
        (setCol f (colOf j k) (truncf .bf16 xn bitsLt_bf16_f32) : FVec F S128x3584 .bf16)))) := by
  subst hxn
  unfold lastStep
  iintro ⟨H, HO⟩
  iapply (wp_stepE c (colVal_spec c X s 2 j k acc d)) $$ H
  iintro H
  iapply (wp_stepE c (load_any c (m := outV) (r := (colR (colOf j k)).toLoadRect) fullShare f
    (by have h := colR_sub_owR j k; rwa [View.set_slice] at h))) $$ HO
  iintro HO
  iapply (wp_last c (store_any c (m := outV) (r := colR (colOf j k)) f (colR_sub_owR j k))) $$ HO
  iintro %_ HO
  isplitl [H]; · iexact H
  have e := read_store_col (F := F) outV.view (colOf j k) f (shapeCast S128x128 (truncf .bf16 (X.colNext 2 j k acc s (Prev X 2 d (colOf j k))) bitsLt_bf16_f32) shapeCasts_S128x128_S128x128)
  rw [shapeCast_self] at e ⊢
  rw [show (setCol f (colOf j k) (truncf .bf16 (X.colNext 2 j k acc s (Prev X 2 d (colOf j k))) bitsLt_bf16_f32) : FVec F S128x3584 .bf16) = _ from e.symm]
  iexact HO

end Cert.KernelIdeal.Hand

end
-- ==== Proof.Credit.lean ====
/- The semaphores of the body's copies and the units of each copy. -/
module

public import proofs.«01_k».proof.Proof.Shape
public import Idealize.ShloMosaic.Lib.MixedBatch

@[expose] public section

noncomputable section

namespace Cert.KernelIdeal.Hand

open Cert.KernelIdeal Cert.KernelIdeal.Gen
open Idealize.ShloMosaic Idealize.ShloMosaic.TcCoe

/-- Where layer `l`'s codes and its scale row go. -/
def codesH (l : Fin 3) : Memref sig .tc .hbm S128x3584 .fp8e4m3 := match l with
  | 0 => Memref.whole main_v1_1
  | 1 => Memref.whole main_v1_3
  | 2 => Memref.whole main_v1_5
def srowH (l : Fin 3) : Memref sig .tc .hbm S1x128 .f32 := match l with
  | 0 => Memref.whole main_v1_2
  | 1 => Memref.whole main_v1_4
  | 2 => Memref.whole main_v1_6

abbrev NC : ℕ := (Memref.whole main_v1_1 : Memref sig .tc .hbm S128x3584 .fp8e4m3).view.dmaCredit
abbrev NS : ℕ := (Memref.whole main_v1_2 : Memref sig .tc .hbm S1x128 .f32).view.dmaCredit
abbrev NO : ℕ := (outHW 0).view.dmaCredit
abbrev NX : ℕ := xV.view.dmaCredit
abbrev NP : ℕ := wsV.view.dmaCredit
abbrev NW : ℕ := (wDst 0 0).view.dmaCredit

theorem NC_pos : 0 < NC := by decide
theorem NS_pos : 0 < NS := by decide
theorem NO_pos : 0 < NO := by decide
theorem NX_pos : 0 < NX := by decide
theorem NP_pos : 0 < NP := by decide
theorem NW_pos : 0 < NW := by decide
theorem NC_eq (l : Fin 3) : (codesH l).view.dmaCredit = NC := by match l with | 0 => rfl | 1 => rfl | 2 => rfl
theorem NS_eq (l : Fin 3) : (srowH l).view.dmaCredit = NS := by match l with | 0 => rfl | 1 => rfl | 2 => rfl
theorem NO_eq (j : Fin 7) : (outHW j).view.dmaCredit = NO := rfl
theorem NP_eq : bV.view.dmaCredit = NP := rfl
theorem NW_eq (l : Fin 3) (j : Fin 7) : (wDst l j).view.dmaCredit = NW := rfl

theorem wSem_eq : ∀ (l : Fin 3) (j : Fin 7), (wSem l j).sem = (⟨2 + 7 * l.val + j.val, by have := l.isLt; have := j.isLt; show _ < 25; omega⟩ : DmaSem sig) := by decide
end Cert.KernelIdeal.Hand

end
-- ==== Proof.Chunks.lean ====
/- The chunks of a layer: each one's weights awaited, its product, its columns; and the loop over them. -/
module

public import proofs.«01_k».proof.Proof.Steps
public import proofs.«01_k».proof.Proof.Credit

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

/-! ## The column loops -/

/-- The feature buffer once the column blocks `done` are the next layer's: the others are still this layer's, unless it is
    layer 0, which reads its features from the input. -/
def XlInv (X : Args F) (l : Fin 3) (v : Feat F) (done : List (Fin 28)) (d : FVec F S128x3584 .f32) : Prop :=
  ∀ k, if k ∈ done then colv d k = X.next l v k else (l ≠ 0 → colv d k = v k)

theorem XlInv.prev {X : Args F} {l : Fin 3} {v : Feat F} {done : List (Fin 28)} {d : FVec F S128x3584 .f32} (h : XlInv X l v done d)
    (hv : l = 0 → v = X.x0) {k : Fin 28} (hk : k ∉ done) : Prev X l d k = v k := by
  have := h k
  rw [if_neg hk] at this
  match l with
  | 0 => rw [hv rfl]; rfl
  | 1 => exact this (by decide)
  | 2 => exact this (by decide)

theorem XlInv.step {X : Args F} {l : Fin 3} {v : Feat F} {done : List (Fin 28)} {d : FVec F S128x3584 .f32} (h : XlInv X l v done d)
    (k : Fin 28) : XlInv X l v (done ++ [k]) (setCol d k (X.next l v k)) := by
  intro k'
  rw [colv_setCol]
  by_cases e : k' = k
  · subst e; rw [if_pos (by simp), if_pos rfl]
  · rw [if_neg e]
    have := h k'
    have hm : k' ∈ done ++ [k] ↔ k' ∈ done := by simp [e]
    simpa only [hm] using this

theorem mem_colsOf {j : Fin 7} {k : Fin 4} {pre : List (Fin 7)} : colOf j k ∈ colsOf pre → j ∈ pre := by
  intro h
  obtain ⟨j', hj', hk⟩ := List.mem_flatMap.mp h
  have : j = j' := by
    apply Fin.ext
    simp only [List.mem_cons, List.not_mem_nil, or_false, Fin.ext_iff] at hk
    have h0 : ((0 : Fin 4) : ℕ) = 0 := rfl
    have h1 : ((1 : Fin 4) : ℕ) = 1 := rfl
    have h2 : ((2 : Fin 4) : ℕ) = 2 := rfl
    have h3 : ((3 : Fin 4) : ℕ) = 3 := rfl
    rw [h0, h1, h2, h3] at hk
    omega
  rw [this]; exact hj'

theorem mem_cols : ∀ k : Fin 28, k ∈ cols := by decide
theorem ks_nodup : ([0, 1, 2, 3] : List (Fin 4)).Nodup := by decide
theorem chunks_nodup : chunks.Nodup := by decide

theorem not_mem_of_split {α : Type} {l pre post : List α} {b : α} (hl : l.Nodup) (h : l = pre ++ b :: post) : b ∉ pre := by
  rw [h] at hl
  intro hb
  exact (List.nodup_append.mp hl).2.2 b hb b (by simp) rfl

theorem map_colOf_mem {j : Fin 7} {k : Fin 4} {pre : List (Fin 4)} (h : colOf j k ∈ pre.map (colOf j)) : k ∈ pre := by
  obtain ⟨k', hk', e⟩ := List.mem_map.mp h
  have : k' = k := by
    have := congrArg Fin.val e
    apply Fin.ext
    have : 4 * j.val + k'.val = 4 * j.val + k.val := this
    omega
  rw [← this]; exact hk'

/-- The next features' buffer, with the lane maxima of what was just written. -/
def XlB (X : Args F) (l : Fin 3) (v : Feat F) (done : List (Fin 28)) : SP F :=
  iprop(∃ d, ⌜XlInv X l v done d⌝ ∗ Own c xlV fullShare d)

theorem chunkCols_spec (X : Args F) (l : Fin 3) (j : Fin 7) (v : Feat F) (pre : List (Fin 7)) (hv : l = 0 → v = X.x0) (hj : j ∉ pre)
    (a : FVec F S128x128 .f32) :
    iprop(Par c X (scaleOf (amaxOf v)) ∗ XlB c X l v (colsOf pre)) ⊢ WP c (chunkCols l j (X.acc l v j) a)
      (fun r => iprop(⌜r = amaxL (X.next l v) (colsOf [j]) a⌝ ∗ Par c X (scaleOf (amaxOf v)) ∗ XlB c X l v (colsOf (pre ++ [j])))) := by
  unfold chunkCols
  iintro ⟨HP, HL⟩
  iapply (wp_last c (wp_loop0 c (f := colStep l j (X.acc l v j))
    (fun ks r => iprop(⌜r = amaxL (X.next l v) (ks.map (colOf j)) a⌝ ∗ Par c X (scaleOf (amaxOf v)) ∗ XlB c X l v (colsOf pre ++ ks.map (colOf j)))) [0, 1, 2, 3] [] a ?_)) $$ [HP HL]
  · rintro k ks r ⟨post, hk⟩
    have hk' := not_mem_of_split ks_nodup hk
    unfold XlB
    iintro ⟨%hr, HP, ⟨%d, %hd, HL⟩⟩
    have hn : colOf j k ∉ colsOf pre ++ ks.map (colOf j) := by
      intro h
      rcases List.mem_append.mp h with h | h
      · exact hj (mem_colsOf h)
      · exact hk' (map_colOf_mem h)
    have hxn : X.colNext l j k (X.acc l v j) (scaleOf (amaxOf v)) (Prev X l d (colOf j k)) = X.next l v (colOf j k) := by
      rw [Args.next_colOf, hd.prev hv hn]; rfl
    iapply (wp_last c (colStep_spec c X (scaleOf (amaxOf v)) l j k (X.acc l v j) d r _ hxn)) $$ [HP HL]
    · isplitl [HP] <;> iassumption
    iintro %r' ⟨%hr', HP, HL⟩
    isplitr
    · ipureintro
      rw [hr', hr, List.map_append]; unfold amaxL; rw [List.foldl_append]; rfl
    isplitl [HP]; · iexact HP
    iexists _
    isplitr
    rotate_left; · iexact HL
    ipureintro
    rw [List.map_append, ← List.append_assoc]
    exact hd.step (colOf j k)
  · isplitr
    · ipureintro; rfl
    isplitl [HP]; · iexact HP
    rw [List.map_nil, List.append_nil]
    iexact HL
  iintro %r ⟨%hr, HP, HL⟩
  isplitr
  · ipureintro; exact hr
  isplitl [HP]; · iexact HP
  have e : colsOf (pre ++ [j]) = colsOf pre ++ List.map (colOf j) ([] ++ [0, 1, 2, 3]) := by
    unfold colsOf; rw [List.flatMap_append]; rfl
  rw [e]
  iexact HL

theorem lastCols_spec (X : Args F) (j : Fin 7) :
    iprop((Par c X (scaleOf (amaxOf X.x2)) ∗ Own c xlV fullShare (asm X.x2)) ∗ (∃ d, Own c (outW j) fullShare d)) ⊢ WP c (lastCols j (X.acc 2 X.x2 j))
      (fun _ => iprop((Par c X (scaleOf (amaxOf X.x2)) ∗ Own c xlV fullShare (asm X.x2)) ∗ Own c (outW j) fullShare ((outHW j).view.read (Elt F) X.out))) := by
  unfold lastCols
  iintro ⟨HP, ⟨%d, HO⟩⟩
  iapply (wp_last c (wp_loop0 c (f := lastStep j (X.acc 2 X.x2 j))
    (fun ks _ => iprop(∃ f : FVec F S128x3584 .bf16, ⌜∀ k ∈ ks, colv f (colOf j k) = X.outF (colOf j k)⌝ ∗ (Par c X (scaleOf (amaxOf X.x2)) ∗ Own c xlV fullShare (asm X.x2))
      ∗ (outV.view.loc (c : Thread nD τ) ↦[(outW j).view.set]{fullShare} f))) [0, 1, 2, 3] [] ⟨⟩ ?_)) $$ [HP HO]
  · rintro k ks r ⟨post, hk⟩
    have hk' := not_mem_of_split ks_nodup hk
    iintro ⟨%f, %hf, HP, HO⟩
    have hxn : X.colNext 2 j k (X.acc 2 X.x2 j) (scaleOf (amaxOf X.x2)) (Prev X 2 (asm X.x2) (colOf j k)) = X.x3 (colOf j k) := by
      show _ = X.next 2 X.x2 (colOf j k)
      rw [Args.next_colOf]
      show X.colNext 2 j k _ _ (colv (asm X.x2) (colOf j k)) = _
      rw [colv_asm]; rfl
    iapply (wp_last c (lastStep_spec c X (scaleOf (amaxOf X.x2)) j k (X.acc 2 X.x2 j) (asm X.x2) f _ hxn)) $$ [HP HO]
    · isplitl [HP] <;> iassumption
    iintro %_ ⟨HP, HO⟩
    iexists _
    isplitr
    rotate_left
    · isplitl [HP]; · iexact HP
      iexact HO
    ipureintro
    intro k' hm
    rw [colv_setCol]
    by_cases e : k' = k
    · subst e; rw [if_pos rfl]; rfl
    · rw [if_neg (fun h => e (by
        have := congrArg Fin.val h
        have : 4 * j.val + k'.val = 4 * j.val + k.val := this
        apply Fin.ext; omega))]
      rcases List.mem_append.mp hm with h | h
      · exact hf k' h
      · exact absurd (List.mem_singleton.mp h) e
  · unfold Own owns
    icases HO with ⟨%f, -, HO⟩
    iexists f
    isplitr
    · ipureintro; intro k hk; exact absurd hk List.not_mem_nil
    isplitl [HP]; · iexact HP
    iexact HO
  iintro %_ ⟨%f, %hf, HP, HO⟩
  isplitl [HP]; · iexact HP
  have e := outW_read j f X.outF (fun k => hf k (by revert k; decide))
  unfold Own owns
  iexists f
  isplitr
  · ipureintro; exact e
  · iexact HO

/-! ## The chunks -/

/-- What a weight copy delivers. -/
def WD (X : Args F) (p : Fin 3 × Fin 7) : SP F :=
  iprop(Own c (wDst p.1 p.2) fullShare (X.wm p.1 p.2) ∗ Own c (wSrc p.1 p.2) fullShare (X.wm p.1 p.2))

instance (X : Args F) (p : Fin 3 × Fin 7) : Storable (upEmb : UEmb _ 𝕄) (WD c X p) := by unfold WD; infer_instance

/-- A weight copy in flight; landed. -/
def WFly (X : Args F) (p : Fin 3 × Fin 7) : SP F := MB c (n := 1) (wSem p.1 p.2).sem (fun _ => NW) (fun _ => WD c X p) 1 0
def WDone (X : Args F) (p : Fin 3 × Fin 7) : SP F :=
  iprop(WD c X p ∗ semVal ((c : Thread nD τ), SemLoc.dma (wSem p.1 p.2).sem) 0)

theorem bigSep_fin1 (D : Fin 1 → SP F) : bigSep Finset.univ D = D 0 := by
  rw [bigSep_univ_eq_bigSepL [0] (by decide) (by decide), bigSepL_singleton]

theorem wWait_spec (X : Args F) (l : Fin 3) (j : Fin 7) :
    iprop(WFly c X (l, j) ∗ Owes0 c) ⊢ WP c (wWait l j) (fun _ => iprop(WDone c X (l, j) ∗ Owes0 c)) := by
  unfold WFly WDone wWait
  iintro H
  iapply (wp_last c (copyWait_all c (src := wSrc l j) (dst := wDst l j) (sm := (wSem l j).sem) (n := 1) (fun _ => NW) (fun _ => WD c X (l, j)) 0 (fun _ => NW_pos)
    (show 0 + (wDst l j).view.dmaCredit = 0 + NW by rw [NW_eq]))) $$ H
  iintro %_ ⟨HD, Hv, HO⟩
  ihave HD := (Entails.of_eq (bigSep_fin1 (fun _ => WD c X (l, j)))) $$ HD
  isplitr [HO]
  · isplitl [HD]; · iexact HD
    iexact Hv
  · iexact HO

theorem wFly_product (X : Args F) (l : Fin 3) (j : Fin 7) (q : PosShare TreeShare) (v : Feat F) :
    iprop(Own c (codesW l) q (codesM v) ∗ WDone c X (l, j)) ⊢ WP c (dotChunk l j)
      (fun r => iprop(⌜r = X.acc l v j⌝ ∗ Own c (codesW l) q (codesM v) ∗ WDone c X (l, j))) := by
  unfold WDone WD
  iintro ⟨HC, ⟨HW, HS⟩, Hv⟩
  iapply (wp_last c (dotChunk_spec c l j q (codesM v) (X.wm l j))) $$ [HC HW]
  · isplitl [HC] <;> iassumption
  iintro %r ⟨%hr, HC, HW⟩
  isplitr
  · ipureintro; exact hr
  isplitl [HC]; · iexact HC
  isplitr [Hv]
  · isplitl [HW]; · iexact HW
    iexact HS
  · iexact Hv

/-- The chunks of a layer that is not the last. -/
theorem chunkLoop_spec (X : Args F) (l : Fin 3) (v : Feat F) (q : PosShare TreeShare) (hv : l = 0 → v = X.x0) :
    iprop((Par c X (scaleOf (amaxOf v)) ∗ XlB c X l v [] ∗ Own c (codesW l) q (codesM v) ∗ Owes0 c) ∗ bigSepL chunks (fun j => WFly c X (l, j)))
      ⊢ WP c (loop (chunk l) chunks amax0)
        (fun r => iprop(⌜r = amaxOf (X.next l v)⌝ ∗ (Par c X (scaleOf (amaxOf v)) ∗ Own c xlV fullShare (asm (X.next l v)) ∗ Own c (codesW l) q (codesM v) ∗ Owes0 c)
          ∗ bigSepL chunks (fun j => WDone c X (l, j)))) := by
  iintro ⟨⟨HP, HL, HC, HO⟩, HW⟩
  iapply (wp_last c (wp_loop c (f := chunk l)
    (fun pre r => iprop(⌜r = amaxL (X.next l v) (colsOf pre) amax0⌝ ∗ Par c X (scaleOf (amaxOf v)) ∗ XlB c X l v (colsOf pre) ∗ Own c (codesW l) q (codesM v) ∗ Owes0 c))
    (fun j => WFly c X (l, j)) (fun j => WDone c X (l, j)) chunks [] amax0 ?_)) $$ [HP HL HC HO HW]
  · rintro j pre a ⟨post, hj⟩
    have hj' := not_mem_of_split chunks_nodup hj
    iintro ⟨⟨%ha, HP, HL, HC, HO⟩, HW⟩
    unfold chunk
    iapply (wp_step c (wWait_spec c X l j)) $$ [HW HO]
    · isplitl [HW] <;> iassumption
    iintro ⟨HW, HO⟩
    iapply (wp_stepE c (wFly_product c X l j q v)) $$ [HC HW]
    · isplitl [HC] <;> iassumption
    iintro ⟨HC, HW⟩
    iapply (wp_last c (chunkCols_spec c X l j v pre hv hj' a)) $$ [HP HL]
    · isplitl [HP] <;> iassumption
    iintro %r ⟨%hr, HP, HL⟩
    isplitr [HW]
    · isplitr
      · ipureintro
        rw [hr, ha]; unfold amaxL colsOf
        rw [List.flatMap_append, List.foldl_append]
      isplitl [HP]; · iexact HP
      isplitl [HL]; · iexact HL
      isplitl [HC]; · iexact HC
      iexact HO
    · iexact HW
  · isplitr [HW]
    · isplitr
      · ipureintro; rfl
      isplitl [HP]; · iexact HP
      isplitl [HL]; · iexact HL
      isplitl [HC]; · iexact HC
      iexact HO
    · iexact HW
  iintro %r ⟨⟨%hr, HP, HL, HC, HO⟩, HW⟩
  rw [List.nil_append, colsOf_chunks] at hr
  rw [List.nil_append, colsOf_chunks]
  isplitr
  · ipureintro; exact hr
  isplitr [HW]
  · isplitl [HP]; · iexact HP
    isplitl [HL]
    · unfold XlB
      icases HL with ⟨%d, %hd, HL⟩
      have e : d = asm (X.next l v) := eq_asm fun k => by
        have := hd k
        rwa [if_pos (mem_cols k)] at this
      rw [e]
      iexact HL
    isplitl [HC]; · iexact HC
    iexact HO
  · iexact HW

end Cert.KernelIdeal.Hand

end
-- ==== Proof.Flights.lean ====
/- The copies into and out of the body: what each delivers, the copies started, the waits that collect them. -/
module

public import proofs.«01_k».proof.Proof.Chunks

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (X : Args F)

/-! ## What the copies deliver -/

/-- The result arrays of a layer. -/
def Args.codes (l : Fin 3) : FVec F S128x3584 .fp8e4m3 := codesM (X.feat l)
def Args.srow (l : Fin 3) : FVec F S1x128 .f32 := scaleRow (amaxOf (X.feat l))

/-- The input's copy. -/
def DX : SP F := iprop(Own c xV fullShare X.x ∗ Own c (Memref.whole main_v0 : Memref sig .tc .hbm S128x3584 .bf16) fullShare X.x)
/-- The parameter tables' copies. -/
def DWs : SP F := iprop(Own c wsV fullShare X.ws ∗ Own c (Memref.whole main_arg2 : Memref sig .tc .hbm S3x3584 .f32) fullShare X.ws)
def DB : SP F := iprop(Own c bV fullShare X.b ∗ Own c (Memref.whole main_arg3 : Memref sig .tc .hbm S3x3584 .f32) fullShare X.b)
def DP (t : Fin 2) : SP F := match t with
  | 0 => DWs c X
  | 1 => DB c X
/-- A layer's codes, lent at half while its copy reads them. -/
def DC (l : Fin 3) : SP F := iprop(Own c (codesH l) fullShare (X.codes l) ∗ Own c (codesW l) fullShare.left (X.codes l))
def DS (l : Fin 3) : SP F := iprop(Own c (srowH l) fullShare (X.srow l) ∗ Own c (srowW l) fullShare (X.srow l))
def DOut (j : Fin 7) : SP F :=
  iprop(Own c (outHW j) fullShare ((outHW j).view.read (Elt F) X.out) ∗ Own c (outW j) fullShare ((outHW j).view.read (Elt F) X.out))
def DO (t : Fin 10) : SP F := if h : t.val < 3 then DC c X ⟨t.val, h⟩ else DOut c X ⟨t.val - 3, by omega⟩
def AO (t : Fin 10) : ℕ := if t.val < 3 then NC else NO

instance : Storable (upEmb : UEmb _ 𝕄) (DX c X) := by unfold DX; infer_instance
instance (t : Fin 2) : Storable (upEmb : UEmb _ 𝕄) (DP c X t) := by
  match t with
  | 0 => show Storable _ (DWs c X); unfold DWs; infer_instance
  | 1 => show Storable _ (DB c X); unfold DB; infer_instance
instance (l : Fin 3) : Storable (upEmb : UEmb _ 𝕄) (DC c X l) := by unfold DC; infer_instance
instance (l : Fin 3) : Storable (upEmb : UEmb _ 𝕄) (DS c X l) := by unfold DS; infer_instance
instance (j : Fin 7) : Storable (upEmb : UEmb _ 𝕄) (DOut c X j) := by unfold DOut; infer_instance
instance (t : Fin 10) : Storable (upEmb : UEmb _ 𝕄) (DO c X t) := by unfold DO; split <;> infer_instance

/-- The copies on each semaphore, `k` of them started and `u` units awaited. -/
abbrev MX (k u : ℕ) : SP F := MB c (n := 1) cc0_scratch9.sem (fun _ => NX) (fun _ => DX c X) k u
abbrev MP (k u : ℕ) : SP F := MB c (n := 2) cc0_scratch10.sem (fun _ => NP) (DP c X) k u
abbrev MO (k u : ℕ) : SP F := MB c (n := 10) cc0_scratch12.sem AO (DO c X) k u
abbrev MS (k u : ℕ) : SP F := MB c (n := 3) cc0_scratch13.sem (fun _ => NS) (DS c X) k u
abbrev MW (p : Fin 3 × Fin 7) (k : ℕ) : SP F := MB c (n := 1) (wSem p.1 p.2).sem (fun _ => NW) (fun _ => WD c X p) k 0

/-! ## The copies in -/

/-- What a weight copy starts from. -/
def WPre (p : Fin 3 × Fin 7) : SP F :=
  iprop(Own c (wSrc p.1 p.2) fullShare (X.wm p.1 p.2) ∗ (∃ d, Own c (wDst p.1 p.2) fullShare d) ∗ MW c X p 0)

theorem wStarts_spec : bigSepL wChunks (WPre c X) ⊢ WP c (loop wStart wChunks ⟨⟩) (fun _ => bigSepL wChunks (WFly c X)) := by
  iintro H
  iapply (wp_last c (wp_loop c (f := wStart) (fun _ _ => iprop(emp)) (WPre c X) (WFly c X) wChunks [] ⟨⟩ ?_)) $$ [H]
  · rintro p pre a -
    iintro ⟨-, H⟩
    unfold WPre wStart
    iapply (wp_last c (copyStart_spec c (n := 1) (fun _ => NW) (fun _ => WD c X p) 0 0 (by decide) (NW_eq p.1 p.2) (le_refl _) fullShare (X.wm p.1 p.2)
      (by unfold WD; exact .rfl))) $$ H
    iintro %_ H
    isplitr
    · iempintro
    · unfold WFly; iexact H
  · isplitr
    · iempintro
    · iexact H
  iintro %_ ⟨-, H⟩
  iexact H

/-- What the copies in start from. -/
def StartPre : SP F :=
  iprop(Own c (Memref.whole main_v0 : Memref sig .tc .hbm S128x3584 .bf16) fullShare X.x ∗ (∃ d, Own c xV fullShare d) ∗ MX c X 0 0
    ∗ Own c (Memref.whole main_arg2 : Memref sig .tc .hbm S3x3584 .f32) fullShare X.ws ∗ (∃ d, Own c wsV fullShare d)
    ∗ Own c (Memref.whole main_arg3 : Memref sig .tc .hbm S3x3584 .f32) fullShare X.b ∗ (∃ d, Own c bV fullShare d) ∗ MP c X 0 0
    ∗ bigSepL wChunks (WPre c X))

theorem starts_spec : StartPre c X ⊢ WP c starts (fun _ => iprop(MX c X 1 0 ∗ MP c X 2 0 ∗ bigSepL wChunks (WFly c X))) := by
  unfold StartPre starts
  iintro ⟨Hx, Hxv, HMX, Hws, Hwsv, Hb, Hbv, HMP, HW⟩
  iapply (wp_step c (copyStart_spec c (src := (Memref.whole main_v0 : Memref sig .tc .hbm S128x3584 .bf16)) (dst := xV) (n := 1) (fun _ => NX) (fun _ => DX c X) 0 0 (by decide) rfl (le_refl _) fullShare X.x
    (by unfold DX; exact .rfl))) $$ [Hx Hxv HMX]
  · isplitl [Hx]; · iexact Hx
    isplitl [Hxv] <;> iassumption
  iintro HMX
  iapply (wp_step c (copyStart_spec c (src := (Memref.whole main_arg2 : Memref sig .tc .hbm S3x3584 .f32)) (dst := wsV) (n := 2) (fun _ => NP) (DP c X) 0 0 (by decide) rfl (le_refl _) fullShare X.ws
    (show _ ⊢ DWs c X by unfold DWs; exact .rfl))) $$ [Hws Hwsv HMP]
  · isplitl [Hws]; · iexact Hws
    isplitl [Hwsv] <;> iassumption
  iintro HMP
  iapply (wp_step c (copyStart_spec c (src := (Memref.whole main_arg3 : Memref sig .tc .hbm S3x3584 .f32)) (dst := bV) (n := 2) (fun _ => NP) (DP c X) 1 0 (by decide) NP_eq (Nat.zero_le _) fullShare X.b
    (show _ ⊢ DB c X by unfold DB; exact .rfl))) $$ [Hb Hbv HMP]
  · isplitl [Hb]; · iexact Hb
    isplitl [Hbv] <;> iassumption
  iintro HMP
  iapply (wp_last c (wStarts_spec c X)) $$ HW
  iintro %_ HW
  isplitl [HMX]; · iexact HMX
  isplitl [HMP] <;> iassumption

/-- The input awaited. -/
theorem xWait_spec : iprop(MX c X 1 0 ∗ Owes0 c) ⊢ WP c
    (copyWait (Memref.whole main_v0) xV cc0_scratch9.sem (Memref.isWhole_whole _).wordExact (Memref.isWhole_whole _).wordExact)
    (fun _ => iprop(DX c X ∗ semVal ((c : Thread nD τ), SemLoc.dma cc0_scratch9.sem) 0 ∗ Owes0 c)) := by
  iintro H
  iapply (wp_last c (copyWait_all c (dst := xV) (n := 1) (fun _ => NX) (fun _ => DX c X) 0 (fun _ => NX_pos) rfl)) $$ H
  iintro %_ ⟨HD, Hv, HO⟩
  ihave HD := (Entails.of_eq (bigSep_fin1 (fun _ => DX c X))) $$ HD
  isplitl [HD]; · iexact HD
  isplitl [Hv] <;> iassumption

theorem paramWaits_spec : iprop(MP c X 2 0 ∗ Owes0 c) ⊢ WP c paramWaits
    (fun _ => iprop(DWs c X ∗ DB c X ∗ semVal ((c : Thread nD τ), SemLoc.dma cc0_scratch10.sem) 0 ∗ Owes0 c)) := by
  unfold paramWaits
  iintro H
  iapply (wp_step c (copyWait_some c (dst := wsV) (n := 2) (fun _ => NP) (DP c X) 2 0 (by
    show 0 + NP ≤ 0 + NP + NP; omega))) $$ H
  iintro H
  iapply (wp_last c (copyWait_all c (dst := bV) (n := 2) (fun _ => NP) (DP c X) (0 + NP) (fun _ => NP_pos) (by
    show 0 + NP + NP = 0 + NP + NP; rfl))) $$ H
  iintro %_ ⟨HD, Hv, HO⟩
  ihave HD := (Entails.of_eq ((bigSep_univ_eq_bigSepL [0, 1] (by decide) (by decide) (DP c X)).trans (show _ = iprop(DWs c X ∗ DB c X) from rfl))) $$ HD
  icases HD with ⟨H1, H2⟩
  isplitl [H1]; · iexact H1
  isplitl [H2]; · iexact H2
  isplitl [Hv] <;> iassumption

/-! ## The copies out of a layer -/

theorem publish_spec (l : Fin 3) (hc : (codesH l).view.WordExact) (hs : (srowH l).view.WordExact) :
    iprop(Own c (codesW l) fullShare (X.codes l) ∗ (∃ d, Own c (codesH l) fullShare d) ∗ MO c X l.val 0
        ∗ Own c (srowW l) fullShare (X.srow l) ∗ (∃ d, Own c (srowH l) fullShare d) ∗ MS c X l.val 0)
      ⊢ WP c (publish l (codesH l) hc (srowH l) hs)
        (fun _ => iprop(Own c (codesW l) fullShare.right (X.codes l) ∗ MO c X (l.val + 1) 0 ∗ MS c X (l.val + 1) 0)) := by
  unfold publish
  iintro ⟨HC, HCH, HMO, HS, HSH, HMS⟩
  ihave HC2 := (own_halves c (codesW l) (X.codes l)) $$ HC
  icases HC2 with ⟨HC1, HC2⟩
  have hl := l.isLt
  iapply (wp_step c (copyStart_spec c (src := codesW l) (dst := codesH l) (n := 10) AO (DO c X) l.val 0 (by omega)
    (by rw [show (codesH l).view.amount (SemLoc.dma cc0_scratch12.sem) = NC from NC_eq l]; unfold AO; rw [if_pos hl]) (Nat.zero_le _) fullShare.left (X.codes l)
    (by unfold DO; rw [dif_pos hl]; unfold DC; exact .rfl))) $$ [HC1 HCH HMO]
  · isplitl [HC1]; · iexact HC1
    isplitl [HCH] <;> iassumption
  iintro HMO
  iapply (wp_last c (copyStart_spec c (src := srowW l) (dst := srowH l) (n := 3) (fun _ => NS) (DS c X) l.val 0 hl (NS_eq l) (Nat.zero_le _) fullShare (X.srow l)
    (by unfold DS; exact .rfl))) $$ [HS HSH HMS]
  · isplitl [HS]; · iexact HS
    isplitl [HSH] <;> iassumption
  iintro %_ HMS
  isplitl [HC2]; · iexact HC2
  isplitl [HMO] <;> iassumption

/-! ## The last layer's chunks -/

theorem chunks_pos {pre post : List (Fin 7)} {j : Fin 7} (h : chunks = pre ++ j :: post) : pre.length = j.val := by
  have h1 : chunks[pre.length]? = some j := by rw [h]; simp
  have h2 : chunks = List.finRange 7 := by decide
  rw [h2] at h1
  obtain ⟨hlt, he⟩ := List.getElem?_eq_some_iff.mp h1
  rw [← he]; simp

theorem amount_out (j : Fin 7) {n : ℕ} (h : 3 + n < 10) (hj : n = j.val) :
    (outHW j).view.amount (SemLoc.dma cc0_scratch12.sem) = AO ⟨3 + n, h⟩ := by
  have hA : AO ⟨3 + n, h⟩ = NO := if_neg (Nat.not_lt.mpr (Nat.le_add_right 3 n))
  exact (NO_eq j).trans hA.symm

theorem DO_out {j : Fin 7} {n : ℕ} (h : 3 + n < 10) (hj : n = j.val) : DO c X ⟨3 + n, h⟩ = DOut c X j := by
  subst hj
  have hn : ¬ (⟨3 + j.val, h⟩ : Fin 10).val < 3 := Nat.not_lt.mpr (Nat.le_add_right 3 j.val)
  unfold DO
  rw [dif_neg hn]
  congr 1
  apply Fin.ext
  exact Nat.add_sub_cancel_left 3 j.val

/-- The rest of the output chunks' resources: where each is staged and where it goes. -/
def OPre (j : Fin 7) : SP F := iprop((∃ d, Own c (outW j) fullShare d) ∗ ∃ d, Own c (outHW j) fullShare d)

theorem lastLoop_spec (q : PosShare TreeShare) :
    iprop((Par c X (scaleOf (amaxOf X.x2)) ∗ Own c xlV fullShare (asm X.x2) ∗ Own c (codesW 2) q (codesM X.x2) ∗ Owes0 c ∗ MO c X 3 0)
        ∗ bigSepL chunks (fun j => iprop(WFly c X (2, j) ∗ OPre (F := F) c j)))
      ⊢ WP c (loop lastChunk chunks ⟨⟩)
        (fun _ => iprop((Par c X (scaleOf (amaxOf X.x2)) ∗ Own c xlV fullShare (asm X.x2) ∗ Own c (codesW 2) q (codesM X.x2) ∗ Owes0 c ∗ MO c X 10 0)
          ∗ bigSepL chunks (fun j => WDone c X (2, j)))) := by
  have key := wp_loop c (f := lastChunk)
    (fun pre _ => iprop(Par c X (scaleOf (amaxOf X.x2)) ∗ Own c xlV fullShare (asm X.x2) ∗ Own c (codesW 2) q (codesM X.x2) ∗ Owes0 c ∗ MO c X (3 + pre.length) 0))
    (fun j => iprop(WFly c X (2, j) ∗ OPre (F := F) c j)) (fun j => WDone c X (2, j)) chunks [] ⟨⟩ ?_
  · rw [show 3 + ([] ++ chunks : List (Fin 7)).length = 10 from rfl] at key
    exact key
  rintro j pre a ⟨post, hj⟩
  have hpos := chunks_pos hj
  unfold OPre
  iintro ⟨⟨HP, HL, HC, HO, HM⟩, HW, HOV, HOH⟩
  unfold lastChunk
  iapply (wp_step c (wWait_spec c X 2 j)) $$ [HW HO]
  · isplitl [HW] <;> iassumption
  iintro ⟨HW, HO⟩
  iapply (wp_stepE c (wFly_product c X 2 j q X.x2)) $$ [HC HW]
  · isplitl [HC] <;> iassumption
  iintro ⟨HC, HW⟩
  iapply (wp_step c (lastCols_spec c X j)) $$ [HP HL HOV]
  · isplitr [HOV]
    · isplitl [HP] <;> iassumption
    · iexact HOV
  iintro ⟨⟨HP, HL⟩, HOV⟩
  have hjl := j.isLt
  have ht : 3 + pre.length < 10 := by omega
  iapply (wp_last c (copyStart_spec c (src := outW j) (dst := outHW j) (n := 10) AO (DO c X) (3 + pre.length) 0 ht
    (amount_out j ht hpos) (Nat.zero_le _) fullShare ((outHW j).view.read (Elt F) X.out)
    (by rw [DO_out c X ht hpos]; unfold DOut; exact .rfl))) $$ [HOV HOH HM]
  · isplitl [HOV]; · iexact HOV
    isplitl [HOH] <;> iassumption
  iintro %_ HM
  isplitr [HW]
  · isplitl [HP]; · iexact HP
    isplitl [HL]; · iexact HL
    isplitl [HC]; · iexact HC
    isplitl [HO]; · iexact HO
    rw [List.length_append, List.length_singleton, ← Nat.add_assoc]
    iexact HM
  · iexact HW

/-! ## The drains -/

theorem sumTo_AO : Transfers.sumTo AO 10 = NC + NC + NC + NO + NO + NO + NO + NO + NO + NO := by
  show 0 + NC + NC + NC + NO + NO + NO + NO + NO + NO + NO = _
  omega

/-- Everything the copies out deliver. -/
def Delivered : SP F :=
  iprop(DC c X 0 ∗ DC c X 1 ∗ DC c X 2 ∗ DOut c X 0 ∗ DOut c X 1 ∗ DOut c X 2 ∗ DOut c X 3 ∗ DOut c X 4 ∗ DOut c X 5 ∗ DOut c X 6
    ∗ DS c X 0 ∗ DS c X 1 ∗ DS c X 2)

theorem drains_spec : iprop(MO c X 10 0 ∗ MS c X 3 0 ∗ Owes0 c) ⊢ WP c drains
    (fun _ => iprop(Delivered c X ∗ semVal ((c : Thread nD τ), SemLoc.dma cc0_scratch12.sem) 0
      ∗ semVal ((c : Thread nD τ), SemLoc.dma cc0_scratch13.sem) 0 ∗ Owes0 c)) := by
  unfold drains
  have hsum := sumTo_AO
  have hA0 : ∀ t, 0 < AO t := fun t => by unfold AO; split; exacts [NC_pos, NO_pos]
  have stepC (l : Fin 3) (hd : (codesH l).view.WordExact) (u : ℕ) (hu : u + NC ≤ Transfers.sumTo AO 10) :
      iprop(MO c X 10 u ∗ Owes0 c) ⊢ WP c (copyWait (codesW l) (codesH l) cc0_scratch12.sem (codesW_exact l) hd)
        (fun _ => iprop(MO c X 10 (u + NC) ∗ Owes0 c)) := by
    have h := copyWait_some c (src := codesW l) (dst := codesH l) (hs := codesW_exact l) (hd := hd) (sm := cc0_scratch12.sem) (n := 10) AO (DO c X) 10 u (by rw [NC_eq]; exact hu)
    rwa [NC_eq] at h
  have stepS (l : Fin 3) (hd : (srowH l).view.WordExact) (u : ℕ) (hu : u + NS ≤ Transfers.sumTo (fun _ : Fin 3 => NS) 3) :
      iprop(MS c X 3 u ∗ Owes0 c) ⊢ WP c (copyWait (srowW l) (srowH l) cc0_scratch13.sem (View.wordExact_bits rfl) hd)
        (fun _ => iprop(MS c X 3 (u + NS) ∗ Owes0 c)) := by
    have h := copyWait_some c (src := srowW l) (dst := srowH l) (hs := View.wordExact_bits rfl) (hd := hd) (sm := cc0_scratch13.sem) (n := 3) (fun _ => NS) (DS c X) 3 u (by rw [NS_eq]; exact hu)
    rwa [NS_eq] at h
  have step (j : Fin 7) (u : ℕ) (hu : u + NO ≤ Transfers.sumTo AO 10) :
      iprop(MO c X 10 u ∗ Owes0 c) ⊢ WP c (outWait j ⟨⟩) (fun _ => iprop(MO c X 10 (u + NO) ∗ Owes0 c)) := by
    have h := copyWait_some c (src := outW j) (dst := outHW j) (hs := outW_exact j) (hd := outHW_exact j) (sm := cc0_scratch12.sem) (n := 10) AO (DO c X) 10 u (by rw [NO_eq]; exact hu)
    rwa [NO_eq] at h
  iintro ⟨HM, HS, HO⟩
  iapply (wp_step c (stepC 0 _ 0 (by rw [hsum]; omega))) $$ [HM HO]
  · isplitl [HM] <;> iassumption
  iintro ⟨HM, HO⟩
  iapply (wp_step c (stepS 0 _ 0 (by show 0 + NS ≤ 0 + NS + NS + NS; omega))) $$ [HS HO]
  · isplitl [HS] <;> iassumption
  iintro ⟨HS, HO⟩
  iapply (wp_step c (stepC 1 _ (0 + NC) (by rw [hsum]; omega))) $$ [HM HO]
  · isplitl [HM] <;> iassumption
  iintro ⟨HM, HO⟩
  iapply (wp_step c (stepS 1 _ (0 + NS) (by show 0 + NS + NS ≤ 0 + NS + NS + NS; omega))) $$ [HS HO]
  · isplitl [HS] <;> iassumption
  iintro ⟨HS, HO⟩
  iapply (wp_step c (stepC 2 _ (0 + NC + NC) (by rw [hsum]; omega))) $$ [HM HO]
  · isplitl [HM] <;> iassumption
  iintro ⟨HM, HO⟩
  iapply (wp_step c (copyWait_all c (src := srowW 2) (dst := srowH 2) (hs := View.wordExact_bits rfl) (n := 3) (fun _ => NS) (DS c X) (0 + NS + NS) (fun _ => NS_pos) (by
    rw [NS_eq]; rfl))) $$ [HS HO]
  · isplitl [HS] <;> iassumption
  iintro ⟨HSD, HSv, HO⟩
  unfold chunks loop
  iapply (wp_step c (step 0 (0 + NC + NC + NC) (by rw [hsum]; omega))) $$ [HM HO]
  · isplitl [HM] <;> iassumption
  unfold loop
  iintro ⟨HM, HO⟩
  iapply (wp_step c (step 1 (0 + NC + NC + NC + NO) (by rw [hsum]; omega))) $$ [HM HO]
  · isplitl [HM] <;> iassumption
  unfold loop
  iintro ⟨HM, HO⟩
  iapply (wp_step c (step 2 (0 + NC + NC + NC + NO + NO) (by rw [hsum]; omega))) $$ [HM HO]
  · isplitl [HM] <;> iassumption
  unfold loop
  iintro ⟨HM, HO⟩
  iapply (wp_step c (step 3 (0 + NC + NC + NC + NO + NO + NO) (by rw [hsum]; omega))) $$ [HM HO]
  · isplitl [HM] <;> iassumption
  unfold loop
  iintro ⟨HM, HO⟩
  iapply (wp_step c (step 4 (0 + NC + NC + NC + NO + NO + NO + NO) (by rw [hsum]; omega))) $$ [HM HO]
  · isplitl [HM] <;> iassumption
  unfold loop
  iintro ⟨HM, HO⟩
  iapply (wp_step c (step 5 (0 + NC + NC + NC + NO + NO + NO + NO + NO) (by rw [hsum]; omega))) $$ [HM HO]
  · isplitl [HM] <;> iassumption
  unfold loop
  iintro ⟨HM, HO⟩
  iapply (wp_step c (copyWait_all c (src := outW 6) (dst := outHW 6) (hs := outW_exact 6) (hd := outHW_exact 6) (n := 10) AO (DO c X) (0 + NC + NC + NC + NO + NO + NO + NO + NO + NO) hA0
    (by rw [hsum, NO_eq]; omega))) $$ [HM HO]
  · isplitl [HM] <;> iassumption
  unfold loop
  iintro ⟨HMD, HMv, HO⟩
  iapply (wp_pure c _ _)
  ihave HMD := (Entails.of_eq ((bigSep_univ_eq_bigSepL [0, 1, 2, 3, 4, 5, 6, 7, 8, 9] (by decide) (by decide) (DO c X)).trans (show _ = iprop(DC c X 0 ∗ DC c X 1 ∗ DC c X 2 ∗ DOut c X 0 ∗ DOut c X 1 ∗ DOut c X 2 ∗ DOut c X 3 ∗ DOut c X 4 ∗ DOut c X 5 ∗ DOut c X 6) from rfl))) $$ HMD
  ihave HSD := (Entails.of_eq ((bigSep_univ_eq_bigSepL [0, 1, 2] (by decide) (by decide) (DS c X)).trans (show _ = iprop(DS c X 0 ∗ DS c X 1 ∗ DS c X 2) from rfl))) $$ HSD
  icases HMD with ⟨H0, H1, H2, H3, H4, H5, H6, H7, H8, H9⟩
  isplitr [HMv HSv HO]
  · unfold Delivered
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact HSD
  isplitl [HMv]; · iexact HMv
  isplitl [HSv] <;> iassumption

end Cert.KernelIdeal.Hand

end
-- ==== Proof.Run.lean ====
/- The body run from start to end, each buffer held through the windows the body uses. -/
module

public import proofs.«01_k».proof.Proof.Flights

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (X : Args F)

theorem wChunks_split (P : Fin 3 × Fin 7 → SP F) :
    bigSepL wChunks P = iprop(bigSepL chunks (fun j => P (0, j)) ∗ bigSepL chunks (fun j => P (1, j)) ∗ bigSepL chunks (fun j => P (2, j))) := by
  have h : wChunks = chunks.map (fun j => ((0 : Fin 3), j)) ++ (chunks.map (fun j => ((1 : Fin 3), j)) ++ chunks.map (fun j => ((2 : Fin 3), j))) := rfl
  rw [h, bigSepL_append, bigSepL_append, bigSepL_map, bigSepL_map, bigSepL_map]

theorem bigSepL_pair {α : Type} (l : List α) (P Q : α → SP F) :
    iprop(bigSepL l P ∗ bigSepL l Q) ⊢ bigSepL l (fun a => iprop(P a ∗ Q a)) := by
  induction l with
  | nil =>
    iintro ⟨-, -⟩; rw [bigSepL_nil]; iempintro
  | cons a l ih =>
    rw [bigSepL_cons', bigSepL_cons', bigSepL_cons']
    iintro ⟨⟨H1, H2⟩, H3, H4⟩
    isplitl [H1 H3]
    · isplitl [H1]; · iexact H1
      iexact H3
    · iapply ih
      isplitl [H2]; · iexact H2
      iexact H4

/-- Where a layer's codes and scale row are made, and where they go. -/
def LPre (l : Fin 3) : SP F :=
  iprop((∃ d, Own (F := F) c (codesW l) fullShare d) ∗ (∃ d, Own (F := F) c (codesH l) fullShare d)
    ∗ (∃ d, Own (F := F) c (srowW l) fullShare d) ∗ ∃ d, Own (F := F) c (srowH l) fullShare d)

/-- Before the body. -/
def RunPre : SP F :=
  iprop(StartPre c X ∗ Owes0 c ∗ (∃ d, Own c sbV fullShare d) ∗ (∃ d, Own c xlV fullShare d)
    ∗ LPre c 0 ∗ LPre c 1 ∗ LPre c 2 ∗ bigSepL chunks (OPre c) ∗ MO c X 0 0 ∗ MS c X 0 0)

/-- After it. -/
def RunPost : SP F :=
  iprop(Owes0 c
    ∗ Own c (Memref.whole main_v0 : Memref sig .tc .hbm S128x3584 .bf16) fullShare X.x
    ∗ Own c (Memref.whole main_arg2 : Memref sig .tc .hbm S3x3584 .f32) fullShare X.ws
    ∗ Own c (Memref.whole main_arg3 : Memref sig .tc .hbm S3x3584 .f32) fullShare X.b
    ∗ Par c X (scaleOf (amaxOf X.x2)) ∗ Own c xlV fullShare (asm X.x2)
    ∗ (Own c (codesW 0) fullShare.right (X.codes 0) ∗ Own c (codesW 1) fullShare.right (X.codes 1) ∗ Own c (codesW 2) fullShare.right (X.codes 2))
    ∗ bigSepL wChunks (WDone c X) ∗ Delivered c X
    ∗ semVal ((c : Thread nD τ), SemLoc.dma cc0_scratch9.sem) 0 ∗ semVal ((c : Thread nD τ), SemLoc.dma cc0_scratch10.sem) 0
    ∗ semVal ((c : Thread nD τ), SemLoc.dma cc0_scratch12.sem) 0 ∗ semVal ((c : Thread nD τ), SemLoc.dma cc0_scratch13.sem) 0)

theorem XlB_first {d : FVec F S128x3584 .f32} : Own c xlV fullShare d ⊢ XlB c X 0 X.x0 [] := by
  unfold XlB
  iintro H; iexists d
  isplitr
  · ipureintro; intro k; rw [if_neg (List.not_mem_nil)]; exact fun h => absurd rfl h
  · iexact H

theorem XlB_next (l : Fin 3) (v : Feat F) : Own c xlV fullShare (asm v) ⊢ XlB c X l v [] := by
  unfold XlB
  iintro H; iexists (asm v)
  isplitr
  · ipureintro; intro k; rw [if_neg (List.not_mem_nil)]; exact fun _ => colv_asm v k
  · iexact H

theorem run_spec : RunPre c X ⊢ WP c body (fun _ => RunPost c X) := by
  unfold RunPre body
  iintro ⟨HSt, HO, HSB, ⟨%dxl, HXL⟩, HL0, HL1, HL2, HOut, HMO, HMS⟩
  iapply (wp_step c (starts_spec c X)) $$ HSt
  iintro ⟨HMX, HMP, HW⟩
  ihave HW := (Entails.of_eq (wChunks_split (WFly c X))) $$ HW
  icases HW with ⟨HW0, HW1, HW2⟩
  iapply (wp_step c (xWait_spec c X)) $$ [HMX HO]
  · isplitl [HMX]; · iexact HMX
    iexact HO
  unfold DX
  iintro ⟨⟨HX, HXH⟩, Hv9, HO⟩
  iapply (wp_stepE c (amaxX_spec c X)) $$ HX
  iintro HX
  unfold LPre
  icases HL0 with ⟨HC, HCH, HS, HSH⟩
  iapply (wp_step c (quantise_spec c 0 loadX (amaxOf X.x0) (Own c xV fullShare X.x) X.x0 (fun k => loadX_spec c X k))) $$ [HX HSB HC]
  · isplitl [HX]; · iexact HX
    isplitl [HSB]; · iexact HSB
    iexact HC
  iintro ⟨HX, HSB, HC⟩
  iapply (wp_step c (storeRow_spec c 0 (amaxOf X.x0))) $$ HS
  iintro HS
  iapply (wp_step c (publish_spec c X 0 (Memref.isWhole_whole main_v1_1).wordExact (Memref.isWhole_whole main_v1_2).wordExact)) $$ [HC HCH HMO HS HSH HMS]
  · isplitl [HC]; · iexact HC
    isplitl [HCH]; · iexact HCH
    isplitl [HMO]; · iexact HMO
    isplitl [HS]; · iexact HS
    isplitl [HSH]; · iexact HSH
    iexact HMS
  iintro ⟨HC0, HMO, HMS⟩
  iapply (wp_step c (paramWaits_spec c X)) $$ [HMP HO]
  · isplitl [HMP]; · iexact HMP
    iexact HO
  unfold DWs DB
  iintro ⟨⟨HWS, HWSH⟩, ⟨HB, HBH⟩, Hv10, HO⟩
  ihave HXB := (XlB_first c X (d := dxl)) $$ HXL
  iapply (wp_stepE c (chunkLoop_spec c X 0 X.x0 fullShare.right (fun _ => rfl))) $$ [HX HSB HWS HB HXB HC0 HO HW0]
  · isplitr [HW0]
    · isplitl [HX HSB HWS HB]
      · unfold Par
        isplitl [HX]; · iexact HX
        isplitl [HSB]; · iexact HSB
        isplitl [HWS]; · iexact HWS
        iexact HB
      · isplitl [HXB]; · iexact HXB
        isplitl [HC0]; · iexact HC0
        iexact HO
    · iexact HW0
  iintro ⟨⟨HPar, HXL, HC0, HO⟩, HW0⟩
  unfold Par
  icases HPar with ⟨HX, HSB, HWS, HB⟩
  icases HL1 with ⟨HC, HCH, HS, HSH⟩
  iapply (wp_step c (quantise_spec c 1 loadXl (amaxOf X.x1) (Own c xlV fullShare (asm X.x1)) X.x1 (fun k => by
    have h := loadXl_spec c (asm X.x1) k
    rwa [colv_asm] at h))) $$ [HXL HSB HC]
  · isplitl [HXL]; · iexact HXL
    isplitl [HSB]; · iexists _; iexact HSB
    iexact HC
  iintro ⟨HXL, HSB, HC⟩
  iapply (wp_step c (storeRow_spec c 1 (amaxOf X.x1))) $$ HS
  iintro HS
  iapply (wp_step c (publish_spec c X 1 (Memref.isWhole_whole main_v1_3).wordExact (Memref.isWhole_whole main_v1_4).wordExact)) $$ [HC HCH HMO HS HSH HMS]
  · isplitl [HC]; · iexact HC
    isplitl [HCH]; · iexact HCH
    isplitl [HMO]; · iexact HMO
    isplitl [HS]; · iexact HS
    isplitl [HSH]; · iexact HSH
    iexact HMS
  iintro ⟨HC1, HMO, HMS⟩
  ihave HXB := (XlB_next c X 1 X.x1) $$ HXL
  iapply (wp_stepE c (chunkLoop_spec c X 1 X.x1 fullShare.right (fun h => absurd h (by decide)))) $$ [HX HSB HWS HB HXB HC1 HO HW1]
  · isplitr [HW1]
    · isplitl [HX HSB HWS HB]
      · unfold Par
        isplitl [HX]; · iexact HX
        isplitl [HSB]; · iexact HSB
        isplitl [HWS]; · iexact HWS
        iexact HB
      · isplitl [HXB]; · iexact HXB
        isplitl [HC1]; · iexact HC1
        iexact HO
    · iexact HW1
  iintro ⟨⟨HPar, HXL, HC1, HO⟩, HW1⟩
  unfold Par
  icases HPar with ⟨HX, HSB, HWS, HB⟩
  icases HL2 with ⟨HC, HCH, HS, HSH⟩
  iapply (wp_step c (quantise_spec c 2 loadXl (amaxOf X.x2) (Own c xlV fullShare (asm X.x2)) X.x2 (fun k => by
    have h := loadXl_spec c (asm X.x2) k
    rwa [colv_asm] at h))) $$ [HXL HSB HC]
  · isplitl [HXL]; · iexact HXL
    isplitl [HSB]; · iexists _; iexact HSB
    iexact HC
  iintro ⟨HXL, HSB, HC⟩
  iapply (wp_step c (storeRow_spec c 2 (amaxOf X.x2))) $$ HS
  iintro HS
  iapply (wp_step c (publish_spec c X 2 (Memref.isWhole_whole main_v1_5).wordExact (Memref.isWhole_whole main_v1_6).wordExact)) $$ [HC HCH HMO HS HSH HMS]
  · isplitl [HC]; · iexact HC
    isplitl [HCH]; · iexact HCH
    isplitl [HMO]; · iexact HMO
    isplitl [HS]; · iexact HS
    isplitl [HSH]; · iexact HSH
    iexact HMS
  iintro ⟨HC2, HMO, HMS⟩
  iapply (wp_step c (lastLoop_spec c X fullShare.right)) $$ [HX HSB HWS HB HXL HC2 HO HW2 HMO HOut]
  · isplitr [HW2 HOut]
    · isplitl [HX HSB HWS HB]
      · unfold Par
        isplitl [HX]; · iexact HX
        isplitl [HSB]; · iexact HSB
        isplitl [HWS]; · iexact HWS
        iexact HB
      · isplitl [HXL]; · iexact HXL
        isplitl [HC2]; · iexact HC2
        isplitl [HO]; · iexact HO
        iexact HMO
    · iapply (bigSepL_pair chunks (fun j => WFly c X (2, j)) (OPre c))
      isplitl [HW2]; · iexact HW2
      iexact HOut
  iintro ⟨⟨HPar, HXL, HC2, HO, HMO⟩, HW2⟩
  iapply (wp_last c (drains_spec c X)) $$ [HMO HMS HO]
  · isplitl [HMO]; · iexact HMO
    isplitl [HMS]; · iexact HMS
    iexact HO
  iintro %_ ⟨HD, Hv12, Hv13, HO⟩
  unfold RunPost
  isplitl [HO]; · iexact HO
  isplitl [HXH]; · iexact HXH
  isplitl [HWSH]; · iexact HWSH
  isplitl [HBH]; · iexact HBH
  isplitl [HPar]; · iexact HPar
  isplitl [HXL]; · iexact HXL
  isplitl [HC0 HC1 HC2]
  · isplitl [HC0]; · iexact HC0
    isplitl [HC1]; · iexact HC1
    iexact HC2
  isplitl [HW0 HW1 HW2]
  · rw [wChunks_split]
    isplitl [HW0]; · iexact HW0
    isplitl [HW1]; · iexact HW1
    iexact HW2
  isplitl [HD]; · iexact HD
  isplitl [Hv9]; · iexact Hv9
  isplitl [Hv10]; · iexact Hv10
  isplitl [Hv12]; · iexact Hv12
  iexact Hv13

end Cert.KernelIdeal.Hand

end
-- ==== Proof.Windows.lean ====
/- A buffer held whole is held window by window, and back. -/
module

public import proofs.«01_k».proof.Proof.Flights
public import Idealize.ShloMosaic.Lib.MemrefSat

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

/-! ## Rectangles told apart by a key -/

section Key

variable {S : Shape} {T : Type} [Fintype T] [DecidableEq T] {r : T → Rect S} (key : S.Idx → T) (h : ∀ t i, i ∈ (r t).set ↔ key i = t)
include h

theorem key_disjoint (t t' : T) (ht : t ≠ t') : Disjoint (r t).set (r t').set :=
  Finset.disjoint_left.mpr fun i hi hi' => ht (((h t i).mp hi).symm.trans ((h t' i).mp hi'))

theorem key_cover : (Finset.univ : Finset T).biUnion (fun t => (r t).set) = Finset.univ := by
  ext i
  simp only [Finset.mem_biUnion, Finset.mem_univ, true_and, iff_true]
  exact ⟨key i, (h _ i).mpr rfl⟩

end Key

def key0 (i : S3x128x3584.Idx) : Fin 3 := ⟨(i 0).val, (i 0).isLt⟩
theorem cwR_key (l : Fin 3) (i : S3x128x3584.Idx) : i ∈ (cwR l).set ↔ key0 i = l := by
  have h0 : (i 0).val < 3 := (i 0).isLt
  have h1 : (i 1).val < 128 := (i 1).isLt
  have h2 : (i 2).val < 3584 := (i 2).isLt
  rw [show (i ∈ (cwR l).set) ↔ _ from Rect.mem_set_unit, Fin.ext_iff]
  constructor
  · intro h; have := h 0
    have e : l.val ≤ (i 0).val ∧ (i 0).val < l.val + 1 := this
    show (i 0).val = l.val; omega
  · intro h a
    have h' : (i 0).val = l.val := h
    match a with
    | ⟨0, _⟩ => show l.val ≤ (i 0).val ∧ (i 0).val < l.val + 1; omega
    | ⟨1, _⟩ => show 0 ≤ (i 1).val ∧ (i 1).val < 0 + 128; omega
    | ⟨2, _⟩ => show 0 ≤ (i 2).val ∧ (i 2).val < 0 + 3584; omega

def keyS (i : S3x128.Idx) : Fin 3 := ⟨(i 0).val, (i 0).isLt⟩
theorem srowR_key (l : Fin 3) (i : S3x128.Idx) : i ∈ (srowR l).set ↔ keyS i = l := by
  have h0 : (i 0).val < 3 := (i 0).isLt
  have h1 : (i 1).val < 128 := (i 1).isLt
  rw [show (i ∈ (srowR l).set) ↔ _ from Rect.mem_set_unit, Fin.ext_iff]
  constructor
  · intro h; have := h 0
    have e : l.val ≤ (i 0).val ∧ (i 0).val < l.val + 1 := this
    show (i 0).val = l.val; omega
  · intro h a
    have h' : (i 0).val = l.val := h
    match a with
    | ⟨0, _⟩ => show l.val ≤ (i 0).val ∧ (i 0).val < l.val + 1; omega
    | ⟨1, _⟩ => show 0 ≤ (i 1).val ∧ (i 1).val < 0 + 128; omega

def keyO (i : S128x3584.Idx) : Fin 7 := ⟨(i 1).val / 512, by have : (i 1).val < 3584 := (i 1).isLt; omega⟩
theorem owR_key (j : Fin 7) (i : S128x3584.Idx) : i ∈ (owR j).set ↔ keyO i = j := by
  have h0 : (i 0).val < 128 := (i 0).isLt
  have h1 : (i 1).val < 3584 := (i 1).isLt
  rw [show (i ∈ (owR j).set) ↔ _ from Rect.mem_set_unit, Fin.ext_iff]
  constructor
  · intro h; have := h 1
    have e : 512 * j.val ≤ (i 1).val ∧ (i 1).val < 512 * j.val + 512 := this
    show (i 1).val / 512 = j.val; omega
  · intro h a
    have h' : (i 1).val / 512 = j.val := h
    match a with
    | ⟨0, _⟩ => show 0 ≤ (i 0).val ∧ (i 0).val < 0 + 128; omega
    | ⟨1, _⟩ => show 512 * j.val ≤ (i 1).val ∧ (i 1).val < 512 * j.val + 512; omega

abbrev wdR (p : Fin 3 × Fin 7) : Rect S3x7x3584x512 := wdstR p.1 p.2
def keyWD (i : S3x7x3584x512.Idx) : Fin 3 × Fin 7 := (⟨(i 0).val, (i 0).isLt⟩, ⟨(i 1).val, (i 1).isLt⟩)
theorem wdR_key (p : Fin 3 × Fin 7) (i : S3x7x3584x512.Idx) : i ∈ (wdR p).set ↔ keyWD i = p := by
  have h2 : (i 2).val < 3584 := (i 2).isLt
  have h3 : (i 3).val < 512 := (i 3).isLt
  rw [show (i ∈ (wdR p).set) ↔ _ from Rect.mem_set_unit, Prod.ext_iff, Fin.ext_iff, Fin.ext_iff]
  constructor
  · intro h
    have e : p.1.val ≤ (i 0).val ∧ (i 0).val < p.1.val + 1 := h 0
    have e' : p.2.val ≤ (i 1).val ∧ (i 1).val < p.2.val + 1 := h 1
    show (i 0).val = p.1.val ∧ (i 1).val = p.2.val; omega
  · intro h a
    have h' : (i 0).val = p.1.val ∧ (i 1).val = p.2.val := h
    match a with
    | ⟨0, _⟩ => show p.1.val ≤ (i 0).val ∧ (i 0).val < p.1.val + 1; omega
    | ⟨1, _⟩ => show p.2.val ≤ (i 1).val ∧ (i 1).val < p.2.val + 1; omega
    | ⟨2, _⟩ => show 0 ≤ (i 2).val ∧ (i 2).val < 0 + 3584; omega
    | ⟨3, _⟩ => show 0 ≤ (i 3).val ∧ (i 3).val < 0 + 512; omega

abbrev wsR (p : Fin 3 × Fin 7) : Rect S3x3584x3584 := wsrcR p.1 p.2
def keyWS (i : S3x3584x3584.Idx) : Fin 3 × Fin 7 :=
  (⟨(i 0).val, (i 0).isLt⟩, ⟨(i 2).val / 512, by have : (i 2).val < 3584 := (i 2).isLt; omega⟩)
theorem wsR_key (p : Fin 3 × Fin 7) (i : S3x3584x3584.Idx) : i ∈ (wsR p).set ↔ keyWS i = p := by
  have h1 : (i 1).val < 3584 := (i 1).isLt
  have h2 : (i 2).val < 3584 := (i 2).isLt
  rw [show (i ∈ (wsR p).set) ↔ _ from Rect.mem_set_unit, Prod.ext_iff, Fin.ext_iff, Fin.ext_iff]
  constructor
  · intro h
    have e : p.1.val ≤ (i 0).val ∧ (i 0).val < p.1.val + 1 := h 0
    have e' : 512 * p.2.val ≤ (i 2).val ∧ (i 2).val < 512 * p.2.val + 512 := h 2
    show (i 0).val = p.1.val ∧ (i 2).val / 512 = p.2.val; omega
  · intro h a
    have h' : (i 0).val = p.1.val ∧ (i 2).val / 512 = p.2.val := h
    match a with
    | ⟨0, _⟩ => show p.1.val ≤ (i 0).val ∧ (i 0).val < p.1.val + 1; omega
    | ⟨1, _⟩ => show 0 ≤ (i 1).val ∧ (i 1).val < 0 + 3584; omega
    | ⟨2, _⟩ => show 512 * p.2.val ≤ (i 2).val ∧ (i 2).val < 512 * p.2.val + 512; omega

/-! ## A squeezed window -/

theorem own_squeeze {sp : Space} {s s' : Shape} {e : EltTy} (m : Memref sig .tc sp s e) (h : s.Squeezes s') (q : PosShare TreeShare) (X : s.Idx → Elt F e) :
    Own c m q X ⊢ Own c (m.squeeze s' h) q (fun i => X (Shape.reshapeEquiv h.numel_eq i)) := by
  unfold Own owns
  iintro ⟨%f, %hf, H⟩
  iexists f
  isplitr
  · ipureintro; rw [← hf]; rfl
  · rw [show (m.squeeze s' h).view.set = m.view.set from View.set_reshape _ _]; iexact H

theorem own_unsqueeze {sp : Space} {s s' : Shape} {e : EltTy} (m : Memref sig .tc sp s e) (h : s.Squeezes s') (q : PosShare TreeShare) (d : s'.Idx → Elt F e) :
    Own c (m.squeeze s' h) q d ⊢ Own c m q (fun i => d ((Shape.reshapeEquiv h.numel_eq).symm i)) := by
  unfold Own owns
  iintro ⟨%f, %hf, H⟩
  iexists f
  isplitr
  · ipureintro; rw [← hf]; funext i
    show m.view.read (Elt F) f i = m.view.read (Elt F) f (Shape.reshapeEquiv h.numel_eq ((Shape.reshapeEquiv h.numel_eq).symm i))
    rw [Equiv.apply_symm_apply]
  · rw [show m.view.set = (m.squeeze s' h).view.set from (View.set_reshape _ _).symm]; iexact H

/-! ## A buffer and its windows -/

instance (e : EltTy) : Nonempty (Elt F e) := by infer_instance

section Generic

variable {sp : Space} {S : Shape} {e : EltTy} (m : Memref sig .tc sp S e) {T : Type} [Fintype T] [DecidableEq T] (r : T → Rect S)
  (hr : ∀ t a, (r t).stride a = 1) (key : S.Idx → T) (h : ∀ t i, i ∈ (r t).set ↔ key i = t) (l : List T)
  (hl : Finset.univ = l.toFinset) (hn : l.Nodup)
include key h hl hn

theorem split_at (X : S.Idx → Elt F e) :
    Own c m fullShare X ⊢ bigSepL l fun t => Own c (m.slice (r t) (hr t)) fullShare (fun j => X ((r t).emb j)) := by
  refine (owns_rects (c : Thread nD τ) m fullShare r hr (key_disjoint key h) (key_cover key h) X).trans ?_
  rw [bigSep_univ_eq_bigSepL l hl hn]

theorem join_at (X : S.Idx → Elt F e) :
    bigSepL l (fun t => Own c (m.slice (r t) (hr t)) fullShare (fun j => X ((r t).emb j))) ⊢ Own c m fullShare X := by
  refine .trans ?_ (owns_of_rects (c : Thread nD τ) m fullShare r hr (key_disjoint key h) (key_cover key h) X)
  rw [bigSep_univ_eq_bigSepL l hl hn]

theorem split_any : (∃ d, Own (F := F) c m fullShare d) ⊢ bigSepL l fun t => iprop(∃ d, Own (F := F) c (m.slice (r t) (hr t)) fullShare d) := by
  iintro ⟨%X, H⟩
  ihave H := (split_at c m r hr key h l hl hn X) $$ H
  iapply (bigSepL_mono (l := l) fun t _ => ?_) $$ H
  iintro H; iexists _; iexact H

theorem join_any : bigSepL l (fun t => iprop(∃ d, Own (F := F) c (m.slice (r t) (hr t)) fullShare d)) ⊢ ∃ d, Own (F := F) c m fullShare d := by
  rw [← bigSep_univ_eq_bigSepL l hl hn]
  refine .trans (bigSep_mono fun t _ => ?_)
    ((ownsSat_of_rects (c : Thread nD τ) m fullShare r hr (key_disjoint key h) (key_cover key h) (fun _ _ => True)).trans
      ((ownsSat_elim (c : Thread nD τ) m fullShare _).trans ?_))
  · exact exists_elim fun d => ownsSat_intro (c : Thread nD τ) (m.slice (r t) (hr t)) fullShare (X := d) trivial
  · iintro ⟨%d, -, H⟩
    iexists d; iexact H

end Generic

section Squeezed

variable {sp : Space} {s s' : Shape} {e : EltTy}

theorem any_squeeze (m : Memref sig .tc sp s e) (h : s.Squeezes s') :
    (∃ d, Own (F := F) c m fullShare d) ⊢ ∃ d, Own (F := F) c (m.squeeze s' h) fullShare d := by
  iintro ⟨%d, H⟩; iexists _; iapply (own_squeeze c m h fullShare d) $$ H

theorem any_unsqueeze (m : Memref sig .tc sp s e) (h : s.Squeezes s') :
    (∃ d, Own (F := F) c (m.squeeze s' h) fullShare d) ⊢ ∃ d, Own (F := F) c m fullShare d := by
  iintro ⟨%d, H⟩; iexists _; iapply (own_unsqueeze c m h fullShare d) $$ H

end Squeezed

/-! ## The kernel's windows -/

theorem layers_univ : (Finset.univ : Finset (Fin 3)) = [0, 1, 2].toFinset := by decide
theorem layers_nodup : ([0, 1, 2] : List (Fin 3)).Nodup := by decide
theorem chunks_univ : (Finset.univ : Finset (Fin 7)) = chunks.toFinset := by decide
theorem wChunks_univ : (Finset.univ : Finset (Fin 3 × Fin 7)) = wChunks.toFinset := by decide
theorem wChunks_nodup : wChunks.Nodup := by decide

theorem codes_split : (∃ d, Own (F := F) c codesV fullShare d) ⊢ bigSepL [0, 1, 2] fun l => iprop(∃ d, Own (F := F) c (codesW l) fullShare d) :=
  (split_any c codesV cwR (fun _ _ => rfl) key0 cwR_key [0, 1, 2] layers_univ layers_nodup).trans
    (bigSepL_mono fun l _ => any_squeeze c (codesV.slice (cwR l) (fun _ => rfl)) squeezes_S1x128x3584_S128x3584)
theorem codes_join : bigSepL [0, 1, 2] (fun l => iprop(∃ d, Own (F := F) c (codesW l) fullShare d)) ⊢ ∃ d, Own (F := F) c codesV fullShare d :=
  (bigSepL_mono fun l _ => any_unsqueeze c (codesV.slice (cwR l) (fun _ => rfl)) squeezes_S1x128x3584_S128x3584).trans
    (join_any c codesV cwR (fun _ _ => rfl) key0 cwR_key [0, 1, 2] layers_univ layers_nodup)

theorem srow_split : (∃ d, Own (F := F) c srowV fullShare d) ⊢ bigSepL [0, 1, 2] fun l => iprop(∃ d, Own (F := F) c (srowW l) fullShare d) :=
  split_any c srowV srowR (fun _ _ => rfl) keyS srowR_key [0, 1, 2] layers_univ layers_nodup
theorem srow_join : bigSepL [0, 1, 2] (fun l => iprop(∃ d, Own (F := F) c (srowW l) fullShare d)) ⊢ ∃ d, Own (F := F) c srowV fullShare d :=
  join_any c srowV srowR (fun _ _ => rfl) keyS srowR_key [0, 1, 2] layers_univ layers_nodup

theorem out_split : (∃ d, Own (F := F) c outV fullShare d) ⊢ bigSepL chunks fun j => iprop(∃ d, Own (F := F) c (outW j) fullShare d) :=
  split_any c outV owR (fun _ _ => rfl) keyO owR_key chunks chunks_univ chunks_nodup
theorem out_join : bigSepL chunks (fun j => iprop(∃ d, Own (F := F) c (outW j) fullShare d)) ⊢ ∃ d, Own (F := F) c outV fullShare d :=
  join_any c outV owR (fun _ _ => rfl) keyO owR_key chunks chunks_univ chunks_nodup

theorem outH_split : (∃ d, Own (F := F) c outH fullShare d) ⊢ bigSepL chunks fun j => iprop(∃ d, Own (F := F) c (outHW j) fullShare d) :=
  split_any c outH owR (fun _ _ => rfl) keyO owR_key chunks chunks_univ chunks_nodup
theorem outH_join (d : FVec F S128x3584 .bf16) :
    bigSepL chunks (fun j => Own c (outHW j) fullShare ((outHW j).view.read (Elt F) d)) ⊢ Own c outH fullShare d :=
  join_at c outH owR (fun _ _ => rfl) keyO owR_key chunks chunks_univ chunks_nodup d

theorem wV_split : (∃ d, Own (F := F) c wV fullShare d) ⊢ bigSepL wChunks fun p => iprop(∃ d, Own (F := F) c (wDst p.1 p.2) fullShare d) :=
  (split_any c wV wdR (fun _ _ => rfl) keyWD wdR_key wChunks wChunks_univ wChunks_nodup).trans
    (bigSepL_mono fun p _ => any_squeeze c (wV.slice (wdR p) (fun _ => rfl)) squeezes_S1x1x3584x512_S3584x512)
theorem wV_join : bigSepL wChunks (fun p => iprop(∃ d, Own (F := F) c (wDst p.1 p.2) fullShare d)) ⊢ ∃ d, Own (F := F) c wV fullShare d :=
  (bigSepL_mono fun p _ => any_unsqueeze c (wV.slice (wdR p) (fun _ => rfl)) squeezes_S1x1x3584x512_S3584x512).trans
    (join_any c wV wdR (fun _ _ => rfl) keyWD wdR_key wChunks wChunks_univ wChunks_nodup)

theorem wH_split (X : Args F) : Own c wH fullShare X.w ⊢ bigSepL wChunks fun p => Own c (wSrc p.1 p.2) fullShare (X.wm p.1 p.2) :=
  (split_at c wH wsR (fun _ _ => rfl) keyWS wsR_key wChunks wChunks_univ wChunks_nodup X.w).trans
    (bigSepL_mono fun p _ => own_squeeze c (wH.slice (wsR p) (fun _ => rfl)) squeezes_S1x3584x512_S3584x512 fullShare _)
theorem wH_join (X : Args F) : bigSepL wChunks (fun p => Own c (wSrc p.1 p.2) fullShare (X.wm p.1 p.2)) ⊢ Own c wH fullShare X.w :=
  (bigSepL_mono fun p _ => by
    refine (own_unsqueeze c (wH.slice (wsR p) (fun _ => rfl)) squeezes_S1x3584x512_S3584x512 fullShare (X.wm p.1 p.2)).trans (Entails.of_eq ?_)
    congr 1
    funext i
    show X.w ((wsR p).emb (Shape.reshapeEquiv _ ((Shape.reshapeEquiv _).symm i))) = X.w ((wsR p).emb i)
    rw [Equiv.apply_symm_apply]).trans
    (join_at c wH wsR (fun _ _ => rfl) keyWS wsR_key wChunks wChunks_univ wChunks_nodup X.w)

end Cert.KernelIdeal.Hand

end
-- ==== Proof.Whole.lean ====
/- The body run from start to end, each buffer held whole. -/
module

public import proofs.«01_k».proof.Proof.Run
public import proofs.«01_k».proof.Proof.Windows

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (X : Args F)

theorem bigSepL_unpair {α : Type} (l : List α) (P Q : α → SP F) :
    bigSepL l (fun a => iprop(P a ∗ Q a)) ⊢ iprop(bigSepL l P ∗ bigSepL l Q) := by
  induction l with
  | nil =>
    rw [bigSepL_nil, bigSepL_nil]
    iintro -
    isplitr <;> iempintro
  | cons a l ih =>
    rw [bigSepL_cons', bigSepL_cons', bigSepL_cons']
    iintro ⟨⟨H1, H2⟩, H⟩
    ihave H := ih $$ H
    icases H with ⟨H3, H4⟩
    isplitl [H1 H3]
    · isplitl [H1]; · iexact H1
      iexact H3
    · isplitl [H2]; · iexact H2
      iexact H4

theorem bigSepL_fupd' {α : Type} (l : List α) (P : α → SP F) :
    bigSepL l (fun a => iprop(|={Set.univ}=> P a)) ⊢ iprop(|={Set.univ}=> bigSepL l P) := by
  induction l with
  | nil => iintro H; imodintro; iexact H
  | cons a l ih =>
    rw [bigSepL_cons', bigSepL_cons']
    iintro ⟨H1, H2⟩
    ihave H2 := ih $$ H2
    imod H1 with H1
    imod H2 with H2
    imodintro
    isplitl [H1]; · iexact H1
    iexact H2

/-- A weight chunk's semaphore, at zero. -/
abbrev WS (p : Fin 3 × Fin 7) : SP F := semVal ((c : Thread nD τ), SemLoc.dma (wSem p.1 p.2).sem) 0

/-- The four other semaphores, at zero. -/
def Sems4 : SP F :=
  iprop(semVal ((c : Thread nD τ), SemLoc.dma cc0_scratch9.sem) 0 ∗ semVal ((c : Thread nD τ), SemLoc.dma cc0_scratch10.sem) 0
    ∗ semVal ((c : Thread nD τ), SemLoc.dma cc0_scratch12.sem) 0 ∗ semVal ((c : Thread nD τ), SemLoc.dma cc0_scratch13.sem) 0)

/-- The operands in HBM. -/
def Ins : SP F :=
  iprop(Own c (Memref.whole main_v0 : Memref sig .tc .hbm S128x3584 .bf16) fullShare X.x ∗ Own c wH fullShare X.w
    ∗ Own c (Memref.whole main_arg2 : Memref sig .tc .hbm S3x3584 .f32) fullShare X.ws
    ∗ Own c (Memref.whole main_arg3 : Memref sig .tc .hbm S3x3584 .f32) fullShare X.b)

/-- The staging buffers, at anything. -/
def Scratch : SP F :=
  iprop((∃ d, Own (F := F) c xV fullShare d) ∗ (∃ d, Own (F := F) c wV fullShare d) ∗ (∃ d, Own (F := F) c wsV fullShare d)
    ∗ (∃ d, Own (F := F) c bV fullShare d) ∗ (∃ d, Own (F := F) c xlV fullShare d) ∗ (∃ d, Own (F := F) c codesV fullShare d)
    ∗ (∃ d, Own (F := F) c sbV fullShare d) ∗ (∃ d, Own (F := F) c srowV fullShare d) ∗ ∃ d, Own (F := F) c outV fullShare d)

/-- The results in HBM, at anything; at the kernel's values. -/
def OutsAny : SP F :=
  iprop((∃ d, Own (F := F) c outH fullShare d)
    ∗ (∃ d, Own (F := F) c (codesH 0) fullShare d) ∗ (∃ d, Own (F := F) c (srowH 0) fullShare d)
    ∗ (∃ d, Own (F := F) c (codesH 1) fullShare d) ∗ (∃ d, Own (F := F) c (srowH 1) fullShare d)
    ∗ (∃ d, Own (F := F) c (codesH 2) fullShare d) ∗ ∃ d, Own (F := F) c (srowH 2) fullShare d)
def Outs : SP F :=
  iprop(Own c outH fullShare X.out
    ∗ Own c (codesH 0) fullShare (X.codes 0) ∗ Own c (srowH 0) fullShare (X.srow 0)
    ∗ Own c (codesH 1) fullShare (X.codes 1) ∗ Own c (srowH 1) fullShare (X.srow 1)
    ∗ Own c (codesH 2) fullShare (X.codes 2) ∗ Own c (srowH 2) fullShare (X.srow 2))

theorem three (P : Fin 3 → SP F) : bigSepL [0, 1, 2] P = iprop(P 0 ∗ P 1 ∗ P 2) := by
  rw [bigSepL_cons', bigSepL_cons', bigSepL_singleton]
theorem seven (P : Fin 7 → SP F) : bigSepL chunks P = iprop(P 0 ∗ P 1 ∗ P 2 ∗ P 3 ∗ P 4 ∗ P 5 ∗ P 6) := by
  unfold chunks
  rw [bigSepL_cons', bigSepL_cons', bigSepL_cons', bigSepL_cons', bigSepL_cons', bigSepL_cons', bigSepL_singleton]

theorem pre_open : iprop(Ins c X ∗ OutsAny c ∗ Scratch c ∗ Sems4 c ∗ bigSepL wChunks (WS c) ∗ Owes0 c) ⊢ iprop(|={Set.univ}=> RunPre c X) := by
  unfold Ins OutsAny Scratch Sems4 RunPre StartPre LPre
  iintro ⟨⟨Hx, Hw, Hws, Hb⟩, ⟨Ho, Hc0, Hs0, Hc1, Hs1, Hc2, Hs2⟩, ⟨HxV, HwV, HwsV, HbV, HxlV, HcV, HsbV, HsrV, HoV⟩, ⟨H9, H10, H12, H13⟩, HS, HO⟩
  imod (mb_alloc c (n := 1) cc0_scratch9.sem (fun _ => NX) (fun _ => DX c X)) $$ H9 with H9
  imod (mb_alloc c (n := 2) cc0_scratch10.sem (fun _ => NP) (DP c X)) $$ H10 with H10
  imod (mb_alloc c (n := 10) cc0_scratch12.sem AO (DO c X)) $$ H12 with H12
  imod (mb_alloc c (n := 3) cc0_scratch13.sem (fun _ => NS) (DS c X)) $$ H13 with H13
  ihave HS := (bigSepL_mono (l := wChunks) fun p _ => mb_alloc c (n := 1) (wSem p.1 p.2).sem (fun _ => NW) (fun _ => WD c X p)) $$ HS
  ihave HS := (bigSepL_fupd' wChunks (fun p => MW c X p 0)) $$ HS
  imod HS with HS
  imodintro
  ihave Hw := (wH_split c X) $$ Hw
  ihave HwV := (wV_split c) $$ HwV
  ihave HcV := (codes_split c) $$ HcV
  ihave HcV := (Entails.of_eq (three _)) $$ HcV
  icases HcV with ⟨Hv0, Hv1, Hv2⟩
  ihave HsrV := (srow_split c) $$ HsrV
  ihave HsrV := (Entails.of_eq (three _)) $$ HsrV
  icases HsrV with ⟨Hr0, Hr1, Hr2⟩
  ihave HoV := (out_split c) $$ HoV
  ihave Ho := (outH_split c) $$ Ho
  isplitl [Hx HxV H9 Hws HwsV Hb HbV H10 Hw HwV HS]
  · isplitl [Hx]; · iexact Hx
    isplitl [HxV]; · iexact HxV
    isplitl [H9]; · iexact H9
    isplitl [Hws]; · iexact Hws
    isplitl [HwsV]; · iexact HwsV
    isplitl [Hb]; · iexact Hb
    isplitl [HbV]; · iexact HbV
    isplitl [H10]; · iexact H10
    unfold WPre
    iapply (bigSepL_pair wChunks)
    isplitl [Hw]; · iexact Hw
    iapply (bigSepL_pair wChunks)
    isplitl [HwV]; · iexact HwV
    iexact HS
  isplitl [HO]; · iexact HO
  isplitl [HsbV]; · iexact HsbV
  isplitl [HxlV]; · iexact HxlV
  isplitl [Hv0 Hc0 Hr0 Hs0]
  · isplitl [Hv0]; · iexact Hv0
    isplitl [Hc0]; · iexact Hc0
    isplitl [Hr0]; · iexact Hr0
    iexact Hs0
  isplitl [Hv1 Hc1 Hr1 Hs1]
  · isplitl [Hv1]; · iexact Hv1
    isplitl [Hc1]; · iexact Hc1
    isplitl [Hr1]; · iexact Hr1
    iexact Hs1
  isplitl [Hv2 Hc2 Hr2 Hs2]
  · isplitl [Hv2]; · iexact Hv2
    isplitl [Hc2]; · iexact Hc2
    isplitl [Hr2]; · iexact Hr2
    iexact Hs2
  isplitl [HoV Ho]
  · unfold OPre
    iapply (bigSepL_pair chunks)
    isplitl [HoV]; · iexact HoV
    iexact Ho
  isplitl [H12]; · iexact H12
  iexact H13

/-- What the copies out deliver, with the other halves of the codes: the results, and the staging buffers they came from. -/
theorem delivered_close :
    iprop(Delivered c X ∗ (Own c (codesW 0) fullShare.right (X.codes 0) ∗ Own c (codesW 1) fullShare.right (X.codes 1) ∗ Own c (codesW 2) fullShare.right (X.codes 2)))
      ⊢ iprop(Outs c X ∗ (∃ d, Own (F := F) c codesV fullShare d) ∗ (∃ d, Own (F := F) c srowV fullShare d) ∗ ∃ d, Own (F := F) c outV fullShare d) := by
  unfold Delivered DC DS DOut Outs
  iintro ⟨⟨⟨Hc0, Hl0⟩, ⟨Hc1, Hl1⟩, ⟨Hc2, Hl2⟩, ⟨Ho0, Hv0⟩, ⟨Ho1, Hv1⟩, ⟨Ho2, Hv2⟩, ⟨Ho3, Hv3⟩, ⟨Ho4, Hv4⟩, ⟨Ho5, Hv5⟩, ⟨Ho6, Hv6⟩,
    ⟨Hs0, Hr0⟩, ⟨Hs1, Hr1⟩, Hs2, Hr2⟩, Hh0, Hh1, Hh2⟩
  isplitl [Hc0 Hc1 Hc2 Ho0 Ho1 Ho2 Ho3 Ho4 Ho5 Ho6 Hs0 Hs1 Hs2]
  · isplitl [Ho0 Ho1 Ho2 Ho3 Ho4 Ho5 Ho6]
    · iapply (outH_join c X.out)
      rw [seven]
      isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      iexact Ho6
    isplitl [Hc0]; · iexact Hc0
    isplitl [Hs0]; · iexact Hs0
    isplitl [Hc1]; · iexact Hc1
    isplitl [Hs1]; · iexact Hs1
    isplitl [Hc2]; · iexact Hc2
    iexact Hs2
  isplitl [Hl0 Hh0 Hl1 Hh1 Hl2 Hh2]
  · iapply (codes_join c)
    rw [three]
    isplitl [Hl0 Hh0]
    · iexists _
      iapply (owns_halves (c : Thread nD τ) (codesW 0) fullShare (X.codes 0)).2
      isplitl [Hl0]; · iexact Hl0
      iexact Hh0
    isplitl [Hl1 Hh1]
    · iexists _
      iapply (owns_halves (c : Thread nD τ) (codesW 1) fullShare (X.codes 1)).2
      isplitl [Hl1]; · iexact Hl1
      iexact Hh1
    · iexists _
      iapply (owns_halves (c : Thread nD τ) (codesW 2) fullShare (X.codes 2)).2
      isplitl [Hl2]; · iexact Hl2
      iexact Hh2
  isplitl [Hr0 Hr1 Hr2]
  · iapply (srow_join c)
    rw [three]
    isplitl [Hr0]; · iexists _; iexact Hr0
    isplitl [Hr1]; · iexists _; iexact Hr1
    iexists _; iexact Hr2
  · iapply (out_join c)
    rw [seven]
    isplitl [Hv0]; · iexists _; iexact Hv0
    isplitl [Hv1]; · iexists _; iexact Hv1
    isplitl [Hv2]; · iexists _; iexact Hv2
    isplitl [Hv3]; · iexists _; iexact Hv3
    isplitl [Hv4]; · iexists _; iexact Hv4
    isplitl [Hv5]; · iexists _; iexact Hv5
    iexists _; iexact Hv6

theorem weights_close : bigSepL wChunks (WDone c X)
    ⊢ iprop((∃ d, Own (F := F) c wV fullShare d) ∗ Own c wH fullShare X.w ∗ bigSepL wChunks (WS c)) := by
  unfold WDone WD
  iintro H
  ihave H := (bigSepL_unpair wChunks _ _) $$ H
  icases H with ⟨H, HS⟩
  ihave H := (bigSepL_unpair wChunks _ _) $$ H
  icases H with ⟨HV, HH⟩
  isplitl [HV]
  · iapply (wV_join c)
    iapply (bigSepL_mono (l := wChunks) fun p _ => ?_) $$ HV
    iintro H; iexists _; iexact H
  isplitl [HH]
  · iapply (wH_join c X) $$ HH
  · iexact HS

theorem post_close : RunPost c X ⊢ iprop(Ins c X ∗ Outs c X ∗ Scratch c ∗ Sems4 c ∗ bigSepL wChunks (WS c) ∗ Owes0 c) := by
  unfold RunPost Par
  iintro ⟨HO, Hx, Hws, Hb, ⟨HxV, HsbV, HwsV, HbV⟩, HxlV, Hh, HW, HD, H9, H10, H12, H13⟩
  ihave HD := (delivered_close c X) $$ [HD Hh]
  · isplitl [HD]; · iexact HD
    iexact Hh
  icases HD with ⟨HOuts, HcV, HsrV, HoV⟩
  ihave HW := (weights_close c X) $$ HW
  icases HW with ⟨HwV, Hw, HS⟩
  unfold Ins Scratch Sems4
  isplitl [Hx Hw Hws Hb]
  · isplitl [Hx]; · iexact Hx
    isplitl [Hw]; · iexact Hw
    isplitl [Hws]; · iexact Hws
    iexact Hb
  isplitl [HOuts]; · iexact HOuts
  isplitl [HxV HwV HwsV HbV HxlV HcV HsbV HsrV HoV]
  · isplitl [HxV]; · iexists _; iexact HxV
    isplitl [HwV]; · iexact HwV
    isplitl [HwsV]; · iexists _; iexact HwsV
    isplitl [HbV]; · iexists _; iexact HbV
    isplitl [HxlV]; · iexists _; iexact HxlV
    isplitl [HcV]; · iexact HcV
    isplitl [HsbV]; · iexists _; iexact HsbV
    isplitl [HsrV]; · iexact HsrV
    iexact HoV
  isplitl [H9 H10 H12 H13]
  · isplitl [H9]; · iexact H9
    isplitl [H10]; · iexact H10
    isplitl [H12]; · iexact H12
    iexact H13
  isplitl [HS]; · iexact HS
  iexact HO

theorem body_spec : iprop(Ins c X ∗ OutsAny c ∗ Scratch c ∗ Sems4 c ∗ bigSepL wChunks (WS c) ∗ Owes0 c)
    ⊢ WP c body (fun _ => iprop(Ins c X ∗ Outs c X ∗ Scratch c ∗ Sems4 c ∗ bigSepL wChunks (WS c) ∗ Owes0 c)) := by
  iintro H
  imod (pre_open c X) $$ H with H
  iapply (wp_last c (run_spec c X)) $$ H
  iintro %_ H
  iapply (post_close c X) $$ H

end Cert.KernelIdeal.Hand

end
-- ==== Proof.ShapeEq.lean ====
/- The printed body is the body written with its loops. -/
module

public import proofs.«01_k».proof.Proof.Shape

@[expose] public section

set_option maxRecDepth 16384

noncomputable section

namespace Cert.KernelIdeal.Hand

open Idealize.ShloMosaic Idealize.ShloMosaic.TcCoe Idealize.SL.Sem
open Cert.KernelIdeal Cert.KernelIdeal.Gen

variable {F : FTy → Type} [FloatOps F]

set_option maxHeartbeats 0 in
theorem body_eq (t : Fin cfg0.N) : bodyAt0 (F := F) t = body := by
  sl_kernel_rfl

end Cert.KernelIdeal.Hand

end
-- ==== Proof.Region.lean ====
/- The launch: what the region hands the body, what it takes back, and the run of the whole program. -/
module

public import proofs.«01_k».proof.Proof.Whole
public import proofs.«01_k».proof.Proof.ShapeEq
public import proofs.«01_k».proof.Proof.Gen.KernelIdeal.Frame
public import Idealize.ShloMosaic.Lib.Pipeline.FrameValue

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (c : Dev nD)

/-- The operands the body reads in HBM, and the results it writes there. -/
def H0 : Finset (Ref sig .tc) := {main_v0, main_arg1, main_arg2, main_arg3}
def R0 : Finset (Ref sig .tc) := {main_v1_0, main_v1_1, main_v1_2, main_v1_3, main_v1_4, main_v1_5, main_v1_6}
theorem H0_sub : H0 ⊆ Pipeline.restRefs sig cfg0.spec := by decide
theorem R0_sub : R0 ⊆ Pipeline.restRefs sig cfg0.spec \ H0 := by decide

/-- The arrays the body works on, as the region finds them. -/
def X0 : Args F := ⟨V m c main_v0, V m c main_arg1, V m c main_arg2, V m c main_arg3⟩

/-- What the region leaves in the results. -/
def G (c : Dev nD) : (b : Ref sig .tc) → Buf (Elt F) ((c.tc : Thread nD τ).loc b) :=
  Function.update (Function.update (Function.update (Function.update (Function.update (Function.update (Function.update (V m c)
    main_v1_6 ((X0 m c).srow 2)) main_v1_5 ((X0 m c).codes 2)) main_v1_4 ((X0 m c).srow 1)) main_v1_3 ((X0 m c).codes 1))
    main_v1_2 ((X0 m c).srow 0)) main_v1_1 ((X0 m c).codes 0)) main_v1_0 ((X0 m c).out)

theorem G_0 : G m c main_v1_0 = (X0 m c).out := Function.update_self _ _ _
theorem G_1 : G m c main_v1_1 = (X0 m c).codes 0 := by
  unfold G; rw [Function.update_of_ne (by decide), Function.update_self]
theorem G_2 : G m c main_v1_2 = (X0 m c).srow 0 := by
  unfold G; rw [Function.update_of_ne (by decide), Function.update_of_ne (by decide), Function.update_self]
theorem G_3 : G m c main_v1_3 = (X0 m c).codes 1 := by
  unfold G; rw [Function.update_of_ne (by decide), Function.update_of_ne (by decide), Function.update_of_ne (by decide), Function.update_self]
theorem G_4 : G m c main_v1_4 = (X0 m c).srow 1 := by
  unfold G; rw [Function.update_of_ne (by decide), Function.update_of_ne (by decide), Function.update_of_ne (by decide), Function.update_of_ne (by decide), Function.update_self]
theorem G_5 : G m c main_v1_5 = (X0 m c).codes 2 := by
  unfold G; rw [Function.update_of_ne (by decide), Function.update_of_ne (by decide), Function.update_of_ne (by decide), Function.update_of_ne (by decide), Function.update_of_ne (by decide), Function.update_self]
theorem G_6 : G m c main_v1_6 = (X0 m c).srow 2 := by
  unfold G; rw [Function.update_of_ne (by decide), Function.update_of_ne (by decide), Function.update_of_ne (by decide), Function.update_of_ne (by decide), Function.update_of_ne (by decide), Function.update_of_ne (by decide), Function.update_self]

/-- The body's semaphores. -/
abbrev osem0 : Fin 25 → SemLoc sig := fun j => SemLoc.dma j
theorem ownSemFacts0 : Pipeline.OwnSemFacts cfg0.spec osem0 := by decide
/-- The semaphores of the weight chunks, in the order the chunks are started. -/
def wIdx (p : Fin 3 × Fin 7) : Fin 25 := ⟨2 + 7 * p.1.val + p.2.val, by have := p.1.isLt; have := p.2.isLt; omega⟩
def semList : List (Fin 25) := 0 :: 1 :: 23 :: 24 :: wChunks.map wIdx
theorem semList_univ : (Finset.univ : Finset (Fin 25)) = semList.toFinset := by decide
theorem semList_nodup : semList.Nodup := by decide

theorem ownSems00_eq : (Pipeline.ownSems0 (Ix := Unit) (Name := ℕ) (U := Pipeline.UD sig nD τ) (Lvl := ℕ) (Val := Elt F) (τ := τ) osem0 c : sProp 𝕄)
    ⊣⊢ iprop(Sems4 c ∗ bigSepL wChunks (WS c)) := by
  have hW : ∀ p : Fin 3 × Fin 7, (semVal ((c : Thread nD τ), osem0 (wIdx p)) 0 : SP F) = WS c p := fun p => by
    unfold WS; rw [wSem_eq]; rfl
  rw [Pipeline.ownSems0_eq_of_list c osem0 semList semList_univ semList_nodup]
  unfold semList Sems4
  rw [bigSepL_cons', bigSepL_cons', bigSepL_cons', bigSepL_cons', bigSepL_map]
  simp only [hW]
  constructor
  · iintro ⟨H0, H1, H2, H3, H⟩
    isplitr [H]
    · isplitl [H0]; · iexact H0
      isplitl [H1]; · iexact H1
      isplitl [H2]; · iexact H2
      iexact H3
    iexact H
  · iintro ⟨⟨H0, H1, H2, H3⟩, H⟩
    isplitl [H0]; · iexact H0
    isplitl [H1]; · iexact H1
    isplitl [H2]; · iexact H2
    isplitl [H3]; · iexact H3
    iexact H

theorem ins_eq : (bigSep H0 (fun b => ((c : Thread nD τ).loc b) ↦{fullShare} V m c b) : sProp 𝕄) = Ins c (X0 m c) := by
  unfold Ins
  rw [BI.bigSep_eq_bigSepL_of_eq [main_v0, main_arg1, main_arg2, main_arg3] (by decide) (by decide)]
  simp only [wH, owns_whole]
  rfl

theorem routed_chain (W : (b : Ref sig .tc) → Buf (Elt F) ((c.tc : Thread nD τ).loc b)) :
    (Pipeline.routed R0 c W : sProp 𝕄)
      = iprop(Own c outH fullShare (W main_v1_0)
        ∗ Own c (codesH 0) fullShare (W main_v1_1) ∗ Own c (srowH 0) fullShare (W main_v1_2)
        ∗ Own c (codesH 1) fullShare (W main_v1_3) ∗ Own c (srowH 1) fullShare (W main_v1_4)
        ∗ Own c (codesH 2) fullShare (W main_v1_5) ∗ Own c (srowH 2) fullShare (W main_v1_6)) := by
  unfold Pipeline.routed
  rw [BI.bigSep_eq_bigSepL_of_eq [main_v1_0, main_v1_1, main_v1_2, main_v1_3, main_v1_4, main_v1_5, main_v1_6] (by decide) (by decide)]
  simp only [outH, codesH, srowH, owns_whole]
  rfl

theorem outs_eq : (Pipeline.routed R0 c (G m c) : sProp 𝕄) = Outs c (X0 m c) := by
  rw [routed_chain, G_0, G_1, G_2, G_3, G_4, G_5, G_6]; rfl

theorem outsAny_of (W : (b : Ref sig .tc) → Buf (Elt F) ((c.tc : Thread nD τ).loc b)) :
    (Pipeline.routed R0 c W : sProp 𝕄) ⊢ OutsAny c := by
  rw [routed_chain]
  unfold OutsAny
  iintro ⟨H0, H1, H2, H3, H4, H5, H6⟩
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  iexists _; iexact H6

theorem scratch_eq : (Pipeline.scopedRest (Ix := Unit) (Name := ℕ) (U := Pipeline.UD sig nD τ) (Lvl := ℕ) (Val := Elt F) cfg0.spec c : sProp 𝕄) = Scratch c := by
  rw [scopedRest0_eq]
  unfold Scratch
  simp only [xV, wV, wsV, bV, xlV, codesV, sbV, srowV, outV, owns_whole]
  rfl

/-- The invariant before and after the one point: the results at their launch contents; at the kernel's. -/
def Phi (n : ℕ) : sProp 𝕄 := Pipeline.ΦDRG osem0 cfg0.spec H0 R0 (V m) (if n = 0 then V m else G m) c

theorem Phi_zero : Phi m c 0 = Pipeline.ΦDRG osem0 cfg0.spec H0 R0 (V m) (V m) c := by unfold Phi; rw [if_pos rfl]
theorem Phi_one : Phi m c 1 = Pipeline.ΦDRG osem0 cfg0.spec H0 R0 (V m) (G m) c := by unfold Phi; rw [if_neg one_ne_zero]

def dats (p : Fin 1) (c : Dev nD) : Dat τ (Elt F) Unit ℕ (Pipeline.UD sig nD τ) ℕ (cfgs p) c :=
  match p with
  | 0 => { A := fun w => w.elim0
           after := fun w => w.elim0
           Φ := fun t => Phi m c t.val
           q := fun w => w.elim0
           owed := fun _ => 0 }

theorem dats_Φ (t : Fin (cfg0.N + 1)) : (dats m 0 c).Φ t = Phi m c t.val := rfl

theorem sound : iprop(Phi m c 0 ∗ Owes0 c) ⊢ WP c body (fun _ => iprop(Phi m c 1 ∗ Owes0 c)) := by
  rw [Phi_zero, Phi_one, Pipeline.ΦDRG_eq, Pipeline.ΦDRG_eq, ins_eq, outs_eq, scratch_eq]
  iintro ⟨⟨HSc, Hp, HS, HI, HR⟩, HO⟩
  ihave HS := (ownSems00_eq c).1 $$ HS
  icases HS with ⟨H4, HW⟩
  ihave HR := (outsAny_of c _) $$ HR
  ihave Hwp := (body_spec c (X0 m c)) $$ [HSc H4 HW HI HR HO]
  · isplitl [HI]; · iexact HI
    isplitl [HR]; · iexact HR
    isplitl [HSc]; · iexact HSc
    isplitl [H4]; · iexact H4
    isplitl [HW]; · iexact HW
    iexact HO
  iapply wp_wand $$ Hwp
  iintro %_ ⟨HI, HR, HSc, H4, HW, HO⟩
  isplitr [HO]
  · isplitl [HSc]; · iexact HSc
    isplitl [Hp]; · iexact Hp
    isplitl [H4 HW]
    · iapply (ownSems00_eq c).2
      isplitl [H4]; · iexact H4
      iexact HW
    isplitl [HI]; · iexact HI
    iexact HR
  iexact HO

theorem defs₀_row (t : Fin cfg0.N) : defs₀ (F := F) .tc cfg0.body (cfg0.bodyArgs t (cfg0.slots t)) = bodyAt0 t := by
  unfold defs₀; rw [Defs.onTc_tc]

theorem obligation (t : Fin cfg0.N) : iprop(Phi m c t.castSucc.val ∗ (dats m 0 c).owesAt () t.castSucc)
    ⊢ WP c (bodyAt0 t) (fun _ => iprop(Phi m c t.succ.val ∗ (dats m 0 c).owesAt () t.succ)) := by
  rw [body_eq, show t.succ.val = 1 from by rw [fin_N0 t]; rfl, show t.castSucc.val = 0 from by rw [fin_N0 t]; rfl]
  unfold Dat.owesAt Pipeline.owesWithin
  rw [show (dats m 0 c).owed t.castSucc = 0 from rfl, show (dats m 0 c).owed t.succ = 0 from rfl]
  iintro ⟨HP, %W, -, HW⟩
  ihave Hwp := (sound m c) $$ [HP HW]
  · isplitl [HP]; · iexact HP
    iexists W; iexact HW
  iapply wp_wand $$ Hwp
  iintro %_ ⟨HP, %W', HW⟩
  isplitl [HP]; · iexact HP
  iexists W'
  isplitr
  · ipureintro; exact fun _ _ => Or.inl trivial
  iexact HW

theorem body_obligation : BodyObligation (dats (F := F) m 0 c) (defs₀ (F := F)) Variants.none () Set.univ := fun t => by
  rw [defs₀_row]
  refine triple_restated (obligation m c t) rfl ?_ fun _ => ?_
  · rw [dats_Φ]
    iintro ⟨HP, HO, -⟩
    isplitl [HP]; · iexact HP
    iexact HO
  · rw [dats_Φ]
    iintro ⟨HP, HO⟩
    isplitl [HP]; · iexact HP
    isplitl [HO]; · iexact HO
    rw [Finset.univ_eq_empty, bigSep_empty]
    iempintro

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The whole program runs, and ends with the results at the kernel's values, every other array as the region found it, and every semaphore at zero. -/
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun _ w => w.elim0)
    (howed := fun _ _ => rfl) (V := V m) (hmain := hmain m Variants.none) (hA := fun _ w => w.elim0) (G := G m)
    (hin := fun c => (Entails.of_eq (Phi_zero m c).symm)) (hout := fun c => (Entails.of_eq (Phi_one m c)))

theorem unchanged {r : PUnit × MemSt nD τ sig (Elt F)} (h : Pipeline.FramePostRG cfgs (dats m) 0 R0 (V m) (G m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h.1 c).2 main_arg0 (Finset.mem_sdiff.mpr ⟨Pipeline.mem_restRefs_of main_arg0 (by decide) (by decide), by decide⟩)).trans (V_main_arg0 m c),
   ((h.1 c).2 main_arg1 (Finset.mem_sdiff.mpr ⟨Pipeline.mem_restRefs_of main_arg1 (by decide) (by decide), by decide⟩)).trans (V_main_arg1 m c),
   ((h.1 c).2 main_arg2 (Finset.mem_sdiff.mpr ⟨Pipeline.mem_restRefs_of main_arg2 (by decide) (by decide), by decide⟩)).trans (V_main_arg2 m c),
   ((h.1 c).2 main_arg3 (Finset.mem_sdiff.mpr ⟨Pipeline.mem_restRefs_of main_arg3 (by decide) (by decide), by decide⟩)).trans (V_main_arg3 m c)⟩

/-- The frame: the program ends with its arguments as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨unchanged m h.1, h.2⟩) (run_main m ρ)

end Cert.KernelIdeal.Hand

end
-- ==== Proof.Frames.lean ====
/- The frames: the program at its bits is the same text as the program read at the reals, so one frame serves both. -/
module

public import proofs.«01_k».proof.Defs
public import proofs.«01_k».proof.Proof.Gen.Kernel
public import proofs.«01_k».proof.Proof.Region
public import proofs.«01_k».proof.Proof.Gen.ReferenceIdeal.Frame

@[expose] public section

noncomputable section

namespace Cert.Proof

open Idealize.ShloMosaic Idealize.SL.Sem

/-- `Cert.quiescent_Kernel` with the program written as `KernelIdeal`'s. -/
def kernelFrame : Prop :=
  ∀ (m : (ℓ : Loc Cert.KernelIdeal.nD Cert.KernelIdeal.τ Cert.KernelIdeal.sig) → Buf (Elt Bits) ℓ) (g : Dev Cert.KernelIdeal.nD → PrngReg), Cert.Pre_Kernel m →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

theorem kernelFrame_holds : kernelFrame := fun m g _ => Cert.KernelIdeal.Hand.frame m g

set_option maxHeartbeats 0 in
theorem kernelFrame_eq : Cert.quiescent_Kernel = kernelFrame := by
  sl_kernel_rfl

theorem quiescent_Kernel : Cert.quiescent_Kernel := kernelFrame_eq.mpr kernelFrame_holds
theorem quiescent_KernelIdeal : Cert.quiescent_KernelIdeal := fun m g _ => Cert.KernelIdeal.Hand.frame m g
theorem quiescent_ReferenceIdeal : Cert.quiescent_ReferenceIdeal := fun m g _ => Cert.ReferenceIdeal.Gen.frame m g

end Cert.Proof

end
-- ==== Proof.ScaleMath.lean ====
/- The exponent of a positive number, found two ways over the extended reals: bit by bit against powers of two read from
   their patterns, and as a maximum over the 252 exponents of the normal numbers. Both give the same power of two. -/
module

public import Idealize.ShloMosaic.Lib.IdealHost
public import Idealize.ShloMosaic.PureOps.Ideal.Laws

@[expose] public section

noncomputable section

namespace Cert.Scale

open Idealize.ShloMosaic

/-! ## Patterns of powers of two -/

/-- The number whose exponent field is `f` and whose other bits are zero. -/
def fval (f : BitVec 32) : EReal := Ideal.ofBits .f32 (IntOp.shli .vector f 23#32)

theorem shl23 (f : BitVec 32) : IntOp.shli .vector f 23#32 = f <<< 23 := rfl

theorem sign_ofNat : ∀ n : Fin 256, ((BitVec.ofNat 32 n.val <<< 23).extractLsb' 31 1 == 1#1) = false := by decide +kernel
theorem exp_ofNat : ∀ n : Fin 256, ((BitVec.ofNat 32 n.val <<< 23).extractLsb' 23 8).toNat = n.val := by decide +kernel
theorem frac_ofNat : ∀ n : Fin 256, ((BitVec.ofNat 32 n.val <<< 23).extractLsb' 0 23).toNat = 0 := by decide +kernel

theorem pow_split (n : ℕ) :
    (if (false = true) then (-1 : ℝ) else 1) * ((2 ^ 23 + 0 : ℕ) : ℝ) * (2 : ℝ) ^ ((n : ℤ) - (2 ^ (8 - 1) - 1) - (23 : ℕ)) = (2 : ℝ) ^ ((n : ℤ) - 127) := by
  have e : (n : ℤ) - 127 = 23 + ((n : ℤ) - (2 ^ (8 - 1) - 1) - (23 : ℕ)) := by norm_num
  have h2 : (2 : ℝ) ^ (23 : ℤ) = ((2 ^ 23 + 0 : ℕ) : ℝ) := by norm_num
  rw [e, zpow_add₀ (two_ne_zero), h2, if_neg (by decide), one_mul]

/-- A field from 1 to 254 is the power of two 127 below it. -/
theorem fval_pow (n : ℕ) (h1 : 1 ≤ n) (h2 : n ≤ 254) : fval (BitVec.ofNat 32 n) = (((2 : ℝ) ^ ((n : ℤ) - 127) : ℝ) : EReal) := by
  have hs := sign_ofNat ⟨n, by omega⟩
  have he := exp_ofNat ⟨n, by omega⟩
  have hf := frac_ofNat ⟨n, by omega⟩
  show Ideal.ieee 8 23 (BitVec.ofNat 32 n <<< 23) = _
  unfold Ideal.ieee
  simp only [Nat.reduceAdd] at *
  simp only [hs, he, hf]
  have n1 : ¬ (n = 2 ^ 8 - 1) := by norm_num; omega
  have n2 : ¬ (n = 0) := by omega
  rw [if_neg n1, if_neg n2]
  refine congrArg Real.toEReal ?_
  exact pow_split n

/-- The field 255 is infinity. -/
theorem fval_top : fval (BitVec.ofNat 32 255) = ⊤ := by
  show Ideal.ieee 8 23 (BitVec.ofNat 32 255 <<< 23) = _
  have hs := sign_ofNat ⟨255, by omega⟩
  have he := exp_ofNat ⟨255, by omega⟩
  have hf := frac_ofNat ⟨255, by omega⟩
  unfold Ideal.ieee
  simp only [Nat.reduceAdd] at *
  simp only [hs, he, hf]
  norm_num

theorem c_125 : Ideal.ofBits .f32 0x42FA0000#32 = ((125 : ℝ) : EReal) := by
  simp [Ideal.ofBits, Ideal.ieee, -EReal.coe_mul]; norm_num
theorem c_1 : Ideal.ofBits .f32 0x3F800000#32 = ((1 : ℝ) : EReal) := by
  simp [Ideal.ofBits, Ideal.ieee, -EReal.coe_mul]; norm_num
theorem c_m126 : Ideal.ofBits .f32 0xC2FC0000#32 = ((-126 : ℝ) : EReal) := by
  simp [Ideal.ofBits, Ideal.ieee, -EReal.coe_mul]; norm_num
theorem c_m125 : Ideal.ofBits .f32 0xC2FA0000#32 = ((-125 : ℝ) : EReal) := by
  simp [Ideal.ofBits, Ideal.ieee, -EReal.coe_mul]; norm_num
theorem c_0 : Ideal.ofBits .f32 0x00000000#32 = ((0 : ℝ) : EReal) := by
  simp [Ideal.ofBits, Ideal.ieee, -EReal.coe_mul]
theorem c_bot : Ideal.ofBits .f32 0xFF800000#32 = ⊥ := by
  simp [Ideal.ofBits, Ideal.ieee]
theorem c_max : Ideal.ofBits .f32 0x7E800000#32 = (((2 : ℝ) ^ (126 : ℤ) : ℝ) : EReal) := by
  have h := fval_pow 253 (by norm_num) (by norm_num)
  have e : IntOp.shli .vector (BitVec.ofNat 32 253) 23#32 = 0x7E800000#32 := by decide +kernel
  unfold fval at h
  rw [e] at h
  rw [h]; norm_num

/-! ## The search for the exponent -/

/-- One bit of the search. -/
def stepS (v : EReal) (b f : BitVec 32) : BitVec 32 :=
  Scalar.select (Ideal.cmp .oge v (Ideal.ofBits .f32 (IntOp.shli .vector (IntOp.addi f b) 23#32))) (IntOp.addi f b) f
/-- All eight bits. -/
def searchS (v : EReal) : BitVec 32 :=
  stepS v 1#32 (stepS v 2#32 (stepS v 4#32 (stepS v 8#32 (stepS v 16#32 (stepS v 32#32 (stepS v 64#32 (stepS v 128#32 0#32)))))))
def fieldS (v : EReal) : BitVec 32 := Scalar.select (Ideal.cmp .olt v (Ideal.ofBits .f32 0x7E800000#32)) (searchS v) 255#32
/-- The exponent the search gives. -/
def expoS (v : EReal) : BitVec 32 :=
  Scalar.select (IntOp.ori (IntOp.cmpi .eq (fieldS v) 0#32) (IntOp.cmpi .eq (fieldS v) 255#32)) 0#32 (IntOp.subi (fieldS v) 126#32)
/-- The scale and its inverse, as patterns. -/
def scaleS (v : EReal) : EReal := Ideal.ofBits .f32 (IntOp.shli .vector (IntOp.addi 127#32 (expoS v)) 23#32)
def invS (v : EReal) : EReal := Ideal.ofBits .f32 (IntOp.shli .vector (IntOp.subi 127#32 (expoS v)) 23#32)

/-- One bit of the search on natural numbers. -/
def natStep (K b f : ℕ) : ℕ := if f + b ≤ K then f + b else f

theorem natStep_le (K b f : ℕ) : natStep K b f ≤ f + b := by unfold natStep; split <;> omega

theorem stepS_nat {v : EReal} {K : ℕ} (H : ∀ n : ℕ, 1 ≤ n → n ≤ 255 → (fval (BitVec.ofNat 32 n) ≤ v ↔ n ≤ K)) (b f : ℕ) (h1 : 1 ≤ b) (h2 : f + b ≤ 255) :
    stepS v (BitVec.ofNat 32 b) (BitVec.ofNat 32 f) = BitVec.ofNat 32 (natStep K b f) := by
  have ha : IntOp.addi (BitVec.ofNat 32 f) (BitVec.ofNat 32 b) = BitVec.ofNat 32 (f + b) := (BitVec.ofNat_add ..).symm
  unfold stepS natStep
  rw [ha]
  have := H (f + b) (by omega) h2
  unfold fval at this
  unfold Ideal.cmp Scalar.select
  by_cases h : f + b ≤ K
  · have h' := this.mpr h
    simp [h, h']
  · have h' : ¬ _ := fun x => h (this.mp x)
    rw [decide_eq_false h', if_neg h]
    rfl

theorem natSearch : ∀ K : Fin 256, natStep K 1 (natStep K 2 (natStep K 4 (natStep K 8 (natStep K 16 (natStep K 32 (natStep K 64 (natStep K 128 0))))))) = K.val := by
  decide +kernel

/-- The search finds the largest field whose power of two is at most `v`. -/
theorem searchS_eq {v : EReal} {K : ℕ} (hK : K ≤ 255) (H : ∀ n : ℕ, 1 ≤ n → n ≤ 255 → (fval (BitVec.ofNat 32 n) ≤ v ↔ n ≤ K)) :
    searchS v = BitVec.ofNat 32 K := by
  have l1 := natStep_le K 128 0
  have l2 := natStep_le K 64 (natStep K 128 0)
  have l3 := natStep_le K 32 (natStep K 64 (natStep K 128 0))
  have l4 := natStep_le K 16 (natStep K 32 (natStep K 64 (natStep K 128 0)))
  have l5 := natStep_le K 8 (natStep K 16 (natStep K 32 (natStep K 64 (natStep K 128 0))))
  have l6 := natStep_le K 4 (natStep K 8 (natStep K 16 (natStep K 32 (natStep K 64 (natStep K 128 0)))))
  have l7 := natStep_le K 2 (natStep K 4 (natStep K 8 (natStep K 16 (natStep K 32 (natStep K 64 (natStep K 128 0))))))
  unfold searchS
  rw [stepS_nat H 128 0 (by omega) (by omega), stepS_nat H 64 _ (by omega) (by omega), stepS_nat H 32 _ (by omega) (by omega),
    stepS_nat H 16 _ (by omega) (by omega), stepS_nat H 8 _ (by omega) (by omega), stepS_nat H 4 _ (by omega) (by omega),
    stepS_nat H 2 _ (by omega) (by omega), stepS_nat H 1 _ (by omega) (by omega)]
  exact congrArg _ (natSearch ⟨K, by omega⟩)

/-! ## The exponent as a maximum -/

/-- The exponent of lane `j`. -/
def laneR (j : Fin 252) : EReal := (((BitVec.ofNat 32 j.val).toInt : ℝ) : EReal) - Ideal.ofBits .f32 0x42FA0000#32
def candR (v : EReal) (j : Fin 252) : EReal :=
  Scalar.select (Ideal.cmp .ole (Ideal.exp2 (laneR j - Ideal.ofBits .f32 0x3F800000#32)) v) (laneR j) (Ideal.ofBits .f32 0xC2FC0000#32)
def maxR (v : EReal) : EReal := Finset.univ.fold max (Ideal.ofBits .f32 0xFF800000#32) (candR v)
/-- The exponent the maximum gives. -/
def expR (v : EReal) : EReal :=
  Scalar.select (IntOp.ori (Ideal.cmp .olt (maxR v) (Ideal.ofBits .f32 0xC2FA0000#32)) (Ideal.cmp .oge v (Ideal.ofBits .f32 0x7E800000#32)))
    (Ideal.ofBits .f32 0x00000000#32) (maxR v)

theorem toInt_lane : ∀ j : Fin 252, (BitVec.ofNat 32 j.val).toInt = (j.val : ℤ) := by decide +kernel

theorem laneR_eq (j : Fin 252) : laneR j = ((((j.val : ℤ) - 125 : ℤ) : ℝ) : EReal) := by
  unfold laneR; rw [toInt_lane, c_125, ← EReal.coe_sub]; push_cast; rfl

theorem exp2_int (e : ℤ) : Ideal.exp2 (((e : ℝ) : EReal)) = (((2 : ℝ) ^ e : ℝ) : EReal) := by
  rw [Ideal.exp2_coe]; exact congrArg _ (Real.rpow_intCast 2 e)

theorem candR_eq (v : EReal) (j : Fin 252) :
    candR v j = if (((2 : ℝ) ^ ((j.val : ℤ) - 126) : ℝ) : EReal) ≤ v then ((((j.val : ℤ) - 125 : ℤ) : ℝ) : EReal) else ((-126 : ℝ) : EReal) := by
  unfold candR
  rw [laneR_eq, c_1, c_m126, ← EReal.coe_sub, show ((((j.val : ℤ) - 125 : ℤ) : ℝ) - 1) = (((j.val : ℤ) - 126 : ℤ) : ℝ) by push_cast; ring, exp2_int]
  unfold Ideal.cmp Scalar.select
  split_ifs with h <;> simp_all

/-! ## The two agree -/

/-- Where a number lies among the normal powers of two. -/
theorem place (v : EReal) : v < (((2 : ℝ) ^ (-126 : ℤ) : ℝ) : EReal) ∨ (((2 : ℝ) ^ (126 : ℤ) : ℝ) : EReal) ≤ v ∨
    ∃ k : ℤ, -126 ≤ k ∧ k ≤ 125 ∧ (((2 : ℝ) ^ k : ℝ) : EReal) ≤ v ∧ v < (((2 : ℝ) ^ (k + 1) : ℝ) : EReal) := by
  by_cases hA : v < (((2 : ℝ) ^ (-126 : ℤ) : ℝ) : EReal)
  · exact Or.inl hA
  by_cases hB : (((2 : ℝ) ^ (126 : ℤ) : ℝ) : EReal) ≤ v
  · exact Or.inr (Or.inl hB)
  right; right
  push Not at hA hB
  induction v with
  | bot => exact absurd hA (by simp)
  | top => exact absurd hB (by simp)
  | coe r =>
    have hA' := EReal.coe_le_coe_iff.mp hA
    have hB' := EReal.coe_lt_coe_iff.mp hB
    have hr : 0 < r := lt_of_lt_of_le (by positivity) hA'
    obtain ⟨k, h1, h2⟩ := exists_mem_Ico_zpow hr (by norm_num : (1 : ℝ) < 2)
    refine ⟨k, ?_, ?_, EReal.coe_le_coe_iff.mpr h1, EReal.coe_lt_coe_iff.mpr h2⟩
    · have := (zpow_lt_zpow_iff_right₀ (by norm_num : (1 : ℝ) < 2)).mp (lt_of_le_of_lt hA' h2); omega
    · have := (zpow_lt_zpow_iff_right₀ (by norm_num : (1 : ℝ) < 2)).mp (lt_of_le_of_lt h1 hB'); omega

theorem pow_le_pow (a b : ℤ) : (((2 : ℝ) ^ a : ℝ) : EReal) ≤ (((2 : ℝ) ^ b : ℝ) : EReal) ↔ a ≤ b :=
  EReal.coe_le_coe_iff.trans (zpow_le_zpow_iff_right₀ (by norm_num))

theorem pow_lt_pow (a b : ℤ) : (((2 : ℝ) ^ a : ℝ) : EReal) < (((2 : ℝ) ^ b : ℝ) : EReal) ↔ a < b :=
  EReal.coe_lt_coe_iff.trans (zpow_lt_zpow_iff_right₀ (by norm_num))

/-- Below the normal numbers, and from `2 ^ 126` on, both exponents are zero; between, both are one more than that of the
    largest power of two below. -/
theorem expo_eq (v : EReal) : ∃ e : ℤ, -125 ≤ e ∧ e ≤ 126 ∧ expoS v = BitVec.ofInt 32 e ∧ expR v = ((e : ℝ) : EReal) := by
  rcases place v with h | h | ⟨k, hk1, hk2, h1, h2⟩
  · refine ⟨0, by norm_num, by norm_num, ?_, ?_⟩
    · have hs : searchS v = BitVec.ofNat 32 0 := searchS_eq (by omega) fun n hn1 hn2 => by
        refine ⟨fun hv => ?_, fun hn => by omega⟩
        exfalso
        rcases Nat.lt_or_ge n 255 with hn | hn
        · rw [fval_pow n hn1 (by omega)] at hv
          have := (pow_lt_pow _ _).mp (lt_of_le_of_lt hv h); omega
        · obtain rfl : n = 255 := by omega
          rw [fval_top] at hv
          exact absurd (lt_of_le_of_lt hv h) (by simp)
      have hf : fieldS v = 0#32 := by
        unfold fieldS
        rw [hs, c_max]
        have : v < (((2 : ℝ) ^ (126 : ℤ) : ℝ) : EReal) := lt_trans h ((pow_lt_pow _ _).mpr (by norm_num))
        unfold Ideal.cmp Scalar.select
        simp only [this, decide_true]
        rfl
      unfold expoS
      rw [hf]; decide +kernel
    · have hm : maxR v = ((-126 : ℝ) : EReal) := by
        have hc : ∀ j, candR v j = ((-126 : ℝ) : EReal) := fun j => by
          rw [candR_eq, if_neg]
          intro hv
          have := (pow_lt_pow _ _).mp (lt_of_le_of_lt hv h); omega
        unfold maxR
        apply le_antisymm
        · exact (Finset.fold_max_le _).mpr ⟨by rw [c_bot]; exact bot_le, fun j _ => (hc j).le⟩
        · exact (Finset.le_fold_max _).mpr (Or.inr ⟨0, Finset.mem_univ _, (hc 0).ge⟩)
      unfold expR
      rw [hm, c_m125, c_0]
      have : ((-126 : ℝ) : EReal) < ((-125 : ℝ) : EReal) := EReal.coe_lt_coe_iff.mpr (by norm_num)
      unfold Ideal.cmp Scalar.select IntOp.ori
      simp only [this, decide_true]
      generalize BitVec.ofBool (decide (Ideal.ofBits .f32 0x7E800000#32 ≤ v)) = w
      rw [if_pos (by revert w; decide), Int.cast_zero]
  · refine ⟨0, by norm_num, by norm_num, ?_, ?_⟩
    · have hf : fieldS v = 255#32 := by
        unfold fieldS
        rw [c_max]
        have : ¬ v < (((2 : ℝ) ^ (126 : ℤ) : ℝ) : EReal) := not_lt.mpr h
        unfold Ideal.cmp Scalar.select
        simp only [this, decide_false]
        rfl
      unfold expoS
      rw [hf]; decide +kernel
    · unfold expR
      rw [c_max, c_0]
      unfold Ideal.cmp Scalar.select IntOp.ori
      simp only [h, decide_true]
      generalize BitVec.ofBool (decide (maxR v < Ideal.ofBits .f32 0xC2FA0000#32)) = w
      rw [if_pos (by revert w; decide), Int.cast_zero]
  · have hlt : v < (((2 : ℝ) ^ (126 : ℤ) : ℝ) : EReal) := lt_of_lt_of_le h2 ((pow_le_pow _ _).mpr (by omega))
    refine ⟨k + 1, by omega, by omega, ?_, ?_⟩
    · obtain ⟨K, hK⟩ : ∃ K : ℕ, (K : ℤ) = k + 127 := ⟨(k + 127).toNat, Int.toNat_of_nonneg (by omega)⟩
      have hs : searchS v = BitVec.ofNat 32 K := searchS_eq (by omega) fun n hn1 hn2 => by
        rcases Nat.lt_or_ge n 255 with hn | hn
        · rw [fval_pow n hn1 (by omega)]
          refine ⟨fun hv => ?_, fun hv => le_trans ((pow_le_pow _ _).mpr (by omega)) h1⟩
          have := (pow_lt_pow _ _).mp (lt_of_le_of_lt hv h2); omega
        · obtain rfl : n = 255 := by omega
          rw [fval_top]
          refine ⟨fun hv => absurd (lt_of_le_of_lt hv hlt) (by simp), fun hv => by omega⟩
      have hf : fieldS v = BitVec.ofNat 32 K := by
        unfold fieldS
        rw [hs, c_max]
        unfold Ideal.cmp Scalar.select
        simp only [hlt, decide_true]
        rfl
      have hx : ∀ K : Fin 253, 1 ≤ K.val → Scalar.select (IntOp.ori (IntOp.cmpi .eq (BitVec.ofNat 32 K.val) 0#32) (IntOp.cmpi .eq (BitVec.ofNat 32 K.val) 255#32)) 0#32
          (IntOp.subi (BitVec.ofNat 32 K.val) 126#32) = BitVec.ofInt 32 ((K.val : ℤ) - 126) := by decide +kernel
      unfold expoS
      rw [hf]
      refine (hx ⟨K, by omega⟩ (by show 1 ≤ K; omega)).trans (congrArg _ ?_)
      show (K : ℤ) - 126 = k + 1
      omega
    · have hm : maxR v = (((k + 1 : ℤ) : ℝ) : EReal) := by
        unfold maxR
        apply le_antisymm
        · refine (Finset.fold_max_le _).mpr ⟨by rw [c_bot]; exact bot_le, fun j _ => ?_⟩
          rw [candR_eq]
          split_ifs with hv
          · have := (pow_lt_pow _ _).mp (lt_of_le_of_lt hv h2)
            exact EReal.coe_le_coe_iff.mpr (Int.cast_le.mpr (by omega))
          · refine EReal.coe_le_coe_iff.mpr ?_
            have : ((-126 : ℤ) : ℝ) ≤ ((k + 1 : ℤ) : ℝ) := Int.cast_le.mpr (by omega)
            simpa using this
        · obtain ⟨J, hJ⟩ : ∃ J : ℕ, (J : ℤ) = k + 126 := ⟨(k + 126).toNat, Int.toNat_of_nonneg (by omega)⟩
          refine (Finset.le_fold_max _).mpr (Or.inr ⟨⟨J, by omega⟩, Finset.mem_univ _, ?_⟩)
          rw [candR_eq, if_pos]
          · exact EReal.coe_le_coe_iff.mpr (Int.cast_le.mpr (by show k + 1 ≤ (J : ℤ) - 125; omega))
          · show (((2 : ℝ) ^ ((J : ℤ) - 126) : ℝ) : EReal) ≤ v
            rw [show (J : ℤ) - 126 = k by omega]; exact h1
      unfold expR
      rw [hm, c_m125, c_max]
      have a1 : ¬ (((k + 1 : ℤ) : ℝ) : EReal) < ((-125 : ℝ) : EReal) := by
        rw [EReal.coe_lt_coe_iff, not_lt]
        have : ((-125 : ℤ) : ℝ) ≤ ((k + 1 : ℤ) : ℝ) := Int.cast_le.mpr (by omega)
        simpa using this
      have a2 : ¬ (((2 : ℝ) ^ (126 : ℤ) : ℝ) : EReal) ≤ v := not_le.mpr hlt
      unfold Ideal.cmp Scalar.select IntOp.ori
      simp only [a1, a2, decide_false]
      rfl

theorem addi_expo : ∀ i : Fin 252, IntOp.addi 127#32 (BitVec.ofInt 32 ((i.val : ℤ) - 125)) = BitVec.ofNat 32 (i.val + 2) := by decide +kernel
theorem subi_expo : ∀ i : Fin 252, IntOp.subi 127#32 (BitVec.ofInt 32 ((i.val : ℤ) - 125)) = BitVec.ofNat 32 (252 - i.val) := by decide +kernel

/-- The scale read from its pattern is two to the exponent. -/
theorem scaleS_eq (v : EReal) : scaleS v = Ideal.exp2 (expR v) := by
  obtain ⟨e, h1, h2, hS, hR⟩ := expo_eq v
  obtain ⟨i, hi⟩ : ∃ i : ℕ, (i : ℤ) = e + 125 := ⟨(e + 125).toNat, Int.toNat_of_nonneg (by omega)⟩
  have ha := addi_expo ⟨i, by omega⟩
  rw [show ((⟨i, by omega⟩ : Fin 252).val : ℤ) - 125 = e by show (i : ℤ) - 125 = e; omega] at ha
  rw [hR, exp2_int]
  unfold scaleS
  rw [hS, ha]
  refine (fval_pow (i + 2) (by omega) (by omega)).trans ?_
  rw [show ((i + 2 : ℕ) : ℤ) - 127 = e by push_cast; omega]

/-- The inverse read from its pattern is two to minus the exponent. -/
theorem invS_eq (v : EReal) : invS v = Ideal.exp2 (Ideal.ofBits .f32 0x00000000#32 - expR v) := by
  obtain ⟨e, h1, h2, hS, hR⟩ := expo_eq v
  obtain ⟨i, hi⟩ : ∃ i : ℕ, (i : ℤ) = e + 125 := ⟨(e + 125).toNat, Int.toNat_of_nonneg (by omega)⟩
  have ha := subi_expo ⟨i, by omega⟩
  rw [show ((⟨i, by omega⟩ : Fin 252).val : ℤ) - 125 = e by show (i : ℤ) - 125 = e; omega] at ha
  rw [hR, c_0, ← EReal.coe_sub, show ((0 : ℝ) - (e : ℝ)) = ((-e : ℤ) : ℝ) by push_cast; ring, exp2_int]
  unfold invS
  rw [hS, ha]
  refine (fval_pow (252 - i) (by omega) (by omega)).trans ?_
  rw [show ((252 - i : ℕ) : ℤ) - 127 = -e by omega]

end Cert.Scale

end
-- ==== Proof.Layer.lean ====
/- One quantised cross layer as plain formulas over the extended reals, index by index, and three layout facts. -/
module

public import proofs.«01_k».proof.Proof.ScaleMath
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.Pipeline.Value

@[expose] public section

noncomputable section

namespace Cert.Layer

open Idealize.ShloMosaic Idealize.ShloMosaic.ValueIdx
open scoped BigOperators

abbrev Mat (a b : ℕ) : Type := (⟨2, ![a, b]⟩ : Shape).Idx → EReal
abbrev Ten : Type := (⟨3, ![3, 3584, 3584]⟩ : Shape).Idx → EReal

/-- The largest magnitude of row `i`. -/
def rowAbs (V : Mat 128 3584) (i : Fin 128) : EReal :=
  (Finset.univ : Finset (Fin 3584)).fold max (Ideal.ofBits .f32 0xFF800000#32) fun c => max (V (ix2 i c)) (-V (ix2 i c))
/-- The same over 448. -/
def ratioR (V : Mat 128 3584) (i : Fin 128) : EReal := rowAbs V i * Ideal.ofBits .f32 0x3B124925#32
/-- The codes of features: each times the inverse of its row's scale, clipped. -/
def codes (V : Mat 128 3584) : Mat 128 3584 := fun x =>
  min (Ideal.ofBits .f32 0x43E00000#32) (max (Ideal.ofBits .f32 0xC3E00000#32)
    (V x * Ideal.exp2 (Ideal.ofBits .f32 0x00000000#32 - Scale.expR (ratioR V (x 0)))))
/-- The rows' scales. -/
def srow (V : Mat 128 3584) : Mat 1 128 := fun x => Ideal.exp2 (Scale.expR (ratioR V (x 1)))
/-- The next features: `x0 * (codes·W * scale * wscale + b) + V`. -/
def next (x0 V : Mat 128 3584) (w : Ten) (ws b : Mat 3 3584) (l : Fin 3) : Mat 128 3584 := fun x =>
  x0 x * (((Ideal.ofBits .f32 0x00000000#32 + ∑ k : Fin 3584, codes V (ix2 (x 0) k) * w (ix3 l k (x 1)))
    * Ideal.exp2 (Scale.expR (ratioR V (x 0)))) * ws (ix2 l (x 1)) + b (ix2 l (x 1))) + V x

/-! ## Layout -/

/-- A row index with a column put back. -/
theorem lift_row {m n : ℕ} (h : (⟨2, ![m, n]⟩ : Shape).Reduces [1] (⟨1, ![m]⟩ : Shape)) (i : Fin m)
    (k : Fin ((⟨2, ![m, n]⟩ : Shape).size 1)) : h.lift (ix1 i) k = ix2 i (⟨k.val, k.isLt⟩ : Fin n) := by
  funext c; apply Fin.ext
  fin_cases c <;> rfl

/-- A row maximum at row `i` is the maximum over the columns. -/
theorem reduce_row {m n : ℕ} (src : FVec Ideal ⟨2, ![m, n]⟩ .f32) (acc : BitVec 32)
    (h : (⟨2, ![m, n]⟩ : Shape).Reduces [1] (⟨1, ![m]⟩ : Shape)) (hφ : FKind.Formats .f32) (hacc : acc = FKind.maximumf.neutral .f32 hφ) (i : Fin m) :
    multiReduction .maximumf [1] ⟨1, ![m]⟩ src acc h hφ hacc (ix1 i)
      = (Finset.univ : Finset (Fin n)).fold max (Ideal.ofBits .f32 acc) fun k => src (ix2 i k) := by
  refine (Ideal.multiReduction_maximumf_single src acc h hφ hacc (ix1 i)).trans ?_
  have hf : (src ∘ h.lift (ix1 i)) = fun k : Fin n => src (ix2 i k) := funext fun k => congrArg src (lift_row h i k)
  exact congrArg (fun f => Finset.fold max (Ideal.ofBits .f32 acc) f (Finset.univ : Finset (Fin n))) hf

/-- A column spread over the columns of a matrix. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · omega
    · rfl
  | ⟨1, _⟩ => rfl

end Cert.Layer

end
-- ==== Proof.KernelVal.lean ====
/- The kernel's column blocks as the plain formulas of a quantised cross layer. -/
module

public import proofs.«01_k».proof.Proof.Layer
public import proofs.«01_k».proof.Proof.Flights

@[expose] public section

set_option maxRecDepth 16384

noncomputable section

namespace Cert.KernelVal

open Cert.KernelIdeal Cert.KernelIdeal.Gen Cert.KernelIdeal.Hand Idealize.ShloMosaic Idealize.ShloMosaic.ValueIdx
open scoped BigOperators

abbrev Blk := FVec Ideal S128x128 .f32

/-! ## The row maxima -/

/-- The lane maxima over a list of column blocks are at most `t` where each magnitude is. -/
theorem amaxL_le (v : Feat Ideal) (t : EReal) (x : S128x128.Idx) : ∀ (l : List (Fin 28)) (a : Blk),
    amaxL v l a x ≤ t ↔ a x ≤ t ∧ ∀ k ∈ l, max (v k x) (-v k x) ≤ t
  | [], a => by simp [amaxL]
  | k :: l, a => by
    have h : amaxL v (k :: l) a = amaxL v l (maximumf a (absf (v k))) := rfl
    rw [h, amaxL_le v t x l]
    have h2 : maximumf a (absf (v k)) x = max (a x) (max (v k x) (-v k x)) := rfl
    rw [h2, max_le_iff, List.forall_mem_cons, and_assoc]

theorem mem_cols : ∀ k : Fin 28, k ∈ cols := by decide

/-- A row maximum of lanes, in any lane. -/
theorem rowMax_apply (a : Blk) (i j : Fin 128) : rowMax a (ix2 (n0 := 128) (n1 := 128) i j)
    = (Finset.univ : Finset (Fin 128)).fold max (Ideal.ofBits .f32 0xFF800000#32) fun c => a (ix2 i c) := by
  unfold rowMax
  refine (Layer.broadcastTo_a1_ab_apply (a := 128) (b := 128) _ _ i j).trans ?_
  refine (shapeCast_apply (s := S128x1) (t := S128x1) _ _ (ix2 (n0 := 128) (n1 := 1) i 0) (ix2 (n0 := 128) (n1 := 1) i 0) rfl).trans ?_
  refine (shapeCast_a_a1_apply (a := 128) _ _ i 0).trans ?_
  exact Layer.reduce_row (m := 128) (n := 128) a _ _ _ _ i

/-- The row maximum of the lane maxima is the row's largest magnitude. -/
theorem rowMax_amax (v : Feat Ideal) (i j : Fin 128) : rowMax (amaxOf v) (ix2 (n0 := 128) (n1 := 128) i j) = Layer.rowAbs (asm v) i := by
  rw [rowMax_apply]
  unfold Layer.rowAbs
  refine eq_of_forall_ge_iff fun t => ?_
  rw [Finset.fold_max_le, Finset.fold_max_le]
  refine and_congr_right fun _ => ⟨fun h c _ => ?_, fun h c _ => ?_⟩
  · have h1 := ((amaxL_le v t _ cols amax0).mp (h (⟨c.val % 128, Nat.mod_lt _ (by decide)⟩ : Fin 128) (Finset.mem_univ _))).2
      (blk (ix2 (n0 := 128) (n1 := 3584) i c)) (mem_cols _)
    exact h1
  · refine (amaxL_le v t _ cols amax0).mpr ⟨?_, fun k _ => ?_⟩
    · have h0 := h 0 (Finset.mem_univ _)
      have hz : amax0 (F := Ideal) (ix2 (n0 := 128) (n1 := 128) i c) = 0 := Ideal.ofBits_zero_f32
      rw [hz]
      refine le_trans ?_ h0
      rcases le_total 0 (asm v (ix2 (n0 := 128) (n1 := 3584) i 0)) with hp | hn
      · exact le_trans hp (le_max_left _ _)
      · exact le_trans (EReal.neg_nonneg.mpr hn) (le_max_right _ _)
    · have h1 := h (⟨128 * k.val + c.val, by omega⟩ : Fin 3584) (Finset.mem_univ _)
      have e : asm v (ix2 (n0 := 128) (n1 := 3584) i ⟨128 * k.val + c.val, by omega⟩) = v k (ix2 (n0 := 128) (n1 := 128) i c) := by
        rw [show ix2 (n0 := 128) (n1 := 3584) i ⟨128 * k.val + c.val, by omega⟩ = (colR k).emb (ix2 (n0 := 128) (n1 := 128) i c) from
          idx2_ext (colR_emb0 k (ix2 (n0 := 128) (n1 := 128) i c)).symm (colR_emb1 k (ix2 (n0 := 128) (n1 := 128) i c)).symm]
        exact congrFun (colv_asm v k) _
      rw [e] at h1
      exact h1

theorem ratio_amax (v : Feat Ideal) (i j : Fin 128) : ratio (amaxOf v) (ix2 (n0 := 128) (n1 := 128) i j) = Layer.ratioR (asm v) i := by
  unfold ratio Layer.ratioR
  rw [mulf_apply, rowMax_amax]
  rfl

/-! ## Scales and codes -/

theorem bitStep_apply (v : Blk) (b : BitVec 32) (f : IVec S128x128 32) (x : S128x128.Idx) : bitStep v b f x = Scale.stepS (v x) b (f x) := rfl
theorem search_apply (v : Blk) (x : S128x128.Idx) : search v x = Scale.searchS (v x) := by
  unfold search Scale.searchS
  simp only [bitStep_apply]
  rfl
theorem field_sel (v : Blk) (s : IVec S128x128 32) (x : S128x128.Idx) :
    select (cmpf .olt v (broadcast S128x128 (Scalar.ofBits .f32 0x7E800000#32))) s (broadcast S128x128 255#32) x
      = Scalar.select (Ideal.cmp .olt (v x) (Ideal.ofBits .f32 0x7E800000#32)) (s x) 255#32 := rfl
theorem field_apply (v : Blk) (x : S128x128.Idx) : field v x = Scale.fieldS (v x) := by
  unfold field Scale.fieldS
  rw [field_sel, search_apply]
theorem expo_sel (f : IVec S128x128 32) (x : S128x128.Idx) :
    select (ori (cmpi .eq f (broadcast S128x128 0#32)) (cmpi .eq f (broadcast S128x128 255#32)))
      (broadcast S128x128 0#32) (subi f (broadcast S128x128 126#32)) x
      = Scalar.select (IntOp.ori (IntOp.cmpi .eq (f x) 0#32) (IntOp.cmpi .eq (f x) 255#32)) 0#32 (IntOp.subi (f x) 126#32) := rfl
theorem expo_apply (v : Blk) (x : S128x128.Idx) : expo v x = Scale.expoS (v x) := by
  unfold expo Scale.expoS
  rw [expo_sel, field_apply]
theorem scale_bits (e : IVec S128x128 32) (x : S128x128.Idx) :
    bitcastToFloat (F := Ideal) .f32 (shli (addi (broadcast S128x128 127#32) e) (broadcast S128x128 23#32)) x
      = Ideal.ofBits .f32 (IntOp.shli .vector (IntOp.addi 127#32 (e x)) 23#32) := rfl
theorem inv_bits (e : IVec S128x128 32) (x : S128x128.Idx) :
    bitcastToFloat (F := Ideal) .f32 (shli (subi (broadcast S128x128 127#32) e) (broadcast S128x128 23#32)) x
      = Ideal.ofBits .f32 (IntOp.shli .vector (IntOp.subi 127#32 (e x)) 23#32) := rfl
/-- The scale the kernel finds, in one lane. -/
theorem scaleOf_apply (a : Blk) (x : S128x128.Idx) : scaleOf a x = Scale.scaleS (ratio a x) := by
  unfold scaleOf Scale.scaleS
  rw [scale_bits, expo_apply]
/-- Its inverse, in one lane. -/
theorem invOf_apply (a : Blk) (x : S128x128.Idx) : invOf a x = Scale.invS (ratio a x) := by
  unfold invOf Scale.invS
  rw [inv_bits, expo_apply]

theorem scaleOf_eq (v : Feat Ideal) (i j : Fin 128) : scaleOf (amaxOf v) (ix2 (n0 := 128) (n1 := 128) i j) = Ideal.exp2 (Scale.expR (Layer.ratioR (asm v) i)) := by
  rw [scaleOf_apply, ratio_amax, Scale.scaleS_eq]
theorem invOf_eq (v : Feat Ideal) (i j : Fin 128) : invOf (amaxOf v) (ix2 (n0 := 128) (n1 := 128) i j)
    = Ideal.exp2 (Ideal.ofBits .f32 0x00000000#32 - Scale.expR (Layer.ratioR (asm v) i)) := by
  rw [invOf_apply, ratio_amax, Scale.invS_eq]

theorem codesM_eq (v : Feat Ideal) : codesM v = Layer.codes (asm v) := by
  funext x
  have h := invOf_eq v (x 0) (⟨(x 1).val % 128, Nat.mod_lt _ (by decide)⟩ : Fin 128)
  unfold Layer.codes
  rw [← h]
  rfl

theorem scaleRow_eq (v : Feat Ideal) : scaleRow (amaxOf v) = Layer.srow (asm v) := by
  funext x
  obtain ⟨i, j, rfl⟩ : ∃ (i : Fin 1) (j : Fin 128), x = ix2 i j := ⟨x 0, x 1, eq_ix2 x⟩
  unfold scaleRow Layer.srow
  refine (shapeCast_apply (s := S1x128) (t := S1x128) _ _ (ix2 (n0 := 1) (n1 := 128) i j) (ix2 (n0 := 1) (n1 := 128) i j) rfl).trans ?_
  refine (slice2_axis0_apply (n0 := 128) (n1 := 128) (m := 1) 0 _ _ i j (0 : Fin 128) (by show 0 = 0 + i.val; omega)).trans ?_
  refine (transpose_ix2_apply (a := 128) (b := 128) _ _ (0 : Fin 128) j).trans ?_
  exact scaleOf_eq v j 0

/-! ## The next features -/

variable (X : Args Ideal)

theorem wm_apply (l : Fin 3) (j : Fin 7) (k : Fin 3584) (p : Fin 512) (q : Fin 3584) (h : q.val = 512 * j.val + p.val) :
    X.wm l j (ix2 (n0 := 3584) (n1 := 512) k p) = X.w (ix3 (n0 := 3) (n1 := 3584) (n2 := 3584) l k q) := by
  have e : (wSrc l j).view.emb (ix2 (n0 := 3584) (n1 := 512) k p) = (ix3 (n0 := 3) (n1 := 3584) (n2 := 3584) l k q) := by
    show (wsrcR l j).emb (Shape.reshapeEquiv _ (ix2 (n0 := 3584) (n1 := 512) k p)) = _
    rw [reshapeEquiv_ix2_1ab]
    funext a; apply Fin.ext
    match a with
    | ⟨0, _⟩ => show l.val + 1 * 0 = l.val; omega
    | ⟨1, _⟩ => show 0 + 1 * k.val = k.val; omega
    | ⟨2, _⟩ => show 512 * j.val + 1 * p.val = q.val; omega
  show (wSrc l j).view.read (Elt Ideal) X.w _ = _
  rw [View.read_apply, e]
  rfl

theorem acc_eq (l : Fin 3) (v : Feat Ideal) (j : Fin 7) (i : Fin 128) (p : Fin 512) (q : Fin 3584) (h : q.val = 512 * j.val + p.val) :
    X.acc l v j (ix2 (n0 := 128) (n1 := 512) i p)
      = Ideal.ofBits .f32 0x00000000#32 + ∑ k : Fin 3584, Layer.codes (asm v) (ix2 i k) * X.w (ix3 (n0 := 3) (n1 := 3584) (n2 := 3584) l k q) := by
  unfold Args.acc prod matmul
  refine (Ideal.matmul_plain_apply (M := 128) (K := 3584) (N := 512) none _ _ _ i p).trans ?_
  refine congrArg₂ (· + ·) rfl (Finset.sum_congr rfl fun k _ => ?_)
  rw [codesM_eq]
  exact congrArg₂ (· * ·) rfl (wm_apply X l j k p q h)

theorem rowv_apply (f : FVec Ideal S3x3584 .f32) (l : Fin 3) (c : Fin 28) (p : Fin 128) (q : Fin 3584) (h : q.val = 128 * c.val + p.val) :
    rowv f l c (ix2 (n0 := 1) (n1 := 128) 0 p) = f (ix2 (n0 := 3) (n1 := 3584) l q) := by
  unfold rowv
  refine congrArg f (idx2_ext ?_ ?_)
  · show l.val + 1 * 0 = l.val; omega
  · show 128 * c.val + 1 * p.val = q.val; omega

theorem colOf_jk (c : Fin 28) : colOf (jOf c) (kOf c) = c := by
  apply Fin.ext; show 4 * (c.val / 4) + c.val % 4 = c.val; omega

theorem next_eq (l : Fin 3) (v : Feat Ideal) : asm (X.next l v) = Layer.next (asm X.x0) (asm v) X.w X.ws X.b l := by
  funext x
  obtain ⟨i, q, rfl⟩ : ∃ (i : Fin 128) (q : Fin 3584), x = ix2 i q := ⟨x 0, x 1, eq_ix2 x⟩
  obtain ⟨c, hc⟩ : ∃ c : Fin 28, blk (ix2 (n0 := 128) (n1 := 3584) i q) = c := ⟨_, rfl⟩
  obtain ⟨p, hp⟩ : ∃ p : Fin 128, p.val = q.val % 128 := ⟨⟨q.val % 128, Nat.mod_lt _ (by decide)⟩, rfl⟩
  have ho : ofs (ix2 (n0 := 128) (n1 := 3584) i q) = ix2 (n0 := 128) (n1 := 128) i p := idx2_ext rfl hp.symm
  have hcv : q.val / 128 = c.val := congrArg Fin.val hc
  have hq : q.val = 128 * c.val + p.val := by omega
  have hj : (jOf c).val = c.val / 4 := rfl
  have hk : (kOf c).val = c.val % 4 := rfl
  have a1 : ∀ f : Feat Ideal, asm f (ix2 (n0 := 128) (n1 := 3584) i q) = f c (ix2 (n0 := 128) (n1 := 128) i p) := fun f => by
    show f (blk _) (ofs _) = _; rw [hc, ho]
  have hr : 128 * (kOf c).val + p.val < 512 := by omega
  have h1 : extractStridedSlice S128x128 ![0, 128 * (kOf c).val] (X.acc l v (jOf c)) (acc_slices (kOf c)) (ix2 (n0 := 128) (n1 := 128) i p)
      = Ideal.ofBits .f32 0x00000000#32 + ∑ k : Fin 3584, Layer.codes (asm v) (ix2 i k) * X.w (ix3 (n0 := 3) (n1 := 3584) (n2 := 3584) l k q) :=
    (slice2_axis1_apply (n0 := 128) (n1 := 512) (m := 128) (128 * (kOf c).val) _ _ i p (⟨128 * (kOf c).val + p.val, hr⟩ : Fin 512) rfl).trans
      (acc_eq X l v (jOf c) i _ q (by show q.val = 512 * (jOf c).val + (128 * (kOf c).val + p.val); omega))
  have h3 : broadcastTo S128x128 (rowv X.ws l c) broadcasts_S1x128_S128x128 (ix2 (n0 := 128) (n1 := 128) i p) = X.ws (ix2 (n0 := 3) (n1 := 3584) l q) :=
    (broadcastTo_1b_ab_apply (a := 128) (b := 128) _ _ i p).trans (rowv_apply X.ws l c p q hq)
  have h4 : broadcastTo S128x128 (rowv X.b l c) broadcasts_S1x128_S128x128 (ix2 (n0 := 128) (n1 := 128) i p) = X.b (ix2 (n0 := 3) (n1 := 3584) l q) :=
    (broadcastTo_1b_ab_apply (a := 128) (b := 128) _ _ i p).trans (rowv_apply X.b l c p q hq)
  rw [a1]
  unfold Args.next Args.nextAt Args.colNext
  rw [colOf_jk, addf_apply, mulf_apply, addf_apply, mulf_apply, mulf_apply]
  unfold Layer.next
  rw [a1, a1]
  exact congrArg₂ (· + ·) (congrArg₂ (· * ·) rfl (congrArg₂ (· + ·) (congrArg₂ (· * ·) (congrArg₂ (· * ·) h1 (scaleOf_eq v i p)) h3) h4)) rfl

theorem x0_eq : asm X.x0 = X.x := by
  funext i
  show X.x ((colR (blk i)).emb (ofs i)) = _
  rw [emb_blk]

end Cert.KernelVal

end
-- ==== Proof.RefVal.lean ====
/- The reference's results as the plain formulas of a quantised cross layer. -/
module

public import proofs.«01_k».proof.Proof.Layer
public import proofs.«01_k».proof.Proof.Gen.ReferenceIdeal.Value

@[expose] public section

set_option maxRecDepth 16384

noncomputable section

namespace Cert.RefVal

open Cert.ReferenceIdeal Cert.ReferenceIdeal.Gen Idealize.ShloMosaic Idealize.ShloMosaic.ValueIdx
open scoped BigOperators

abbrev M := FVec Ideal S128x3584 .f32

/-- The row maximum over 448, the lanes' exponents, and the column of exponents, as the reference computes them. -/
def rcol (V : M) : FVec Ideal S128x1 .f32 :=
  mulf (shapeCast S128x1 (multiReduction .maximumf [1] S128 (absf V) 0xFF800000#32 reduces_S128x3584_S128 (.inl rfl) rfl) shapeCasts_S128_S128x1)
    (broadcast S128x1 (Scalar.ofBits .f32 0x3B124925#32))
def lanes : FVec Ideal S128x252 .f32 := k0_pay16
def ecol (V : M) : FVec Ideal S128x1 .f32 :=
  k0_pay18 (rcol V) lanes (cmpf .ole (exp2 (subf lanes (broadcast S128x252 (Scalar.ofBits .f32 0x3F800000#32))))
    (broadcastTo S128x252 (rcol V) broadcasts_S128x1_S128x252))

theorem rcol_apply (V : M) (i : Fin 128) : rcol V (ix2 (n0 := 128) (n1 := 1) i 0) = Layer.ratioR V i := by
  unfold rcol Layer.ratioR
  rw [mulf_apply]
  refine congrArg₂ (· * ·) ?_ rfl
  refine (shapeCast_a_a1_apply (a := 128) _ _ i 0).trans ?_
  exact Layer.reduce_row (m := 128) (n := 3584) (absf V) _ _ _ _ i

theorem lanes_apply (i : Fin 128) (j : Fin 252) : lanes (ix2 (n0 := 128) (n1 := 252) i j) = Scale.laneR j := by
  unfold lanes k0_pay16 Scale.laneR
  rw [subf_apply]
  refine congrArg₂ (· - ·) ?_ rfl
  show (((iota .tc S128x252 32 [1] iota_S128x252_d1_w32 (ix2 (n0 := 128) (n1 := 252) i j)).toInt : ℝ) : EReal) = _
  rw [iota_single_apply]

/-- A lane's candidate at an index, and the exponent's two exceptions at an index. -/
theorem cand_apply (L r : FVec Ideal S128x252 .f32) (x : S128x252.Idx) :
    select (cmpf .ole (exp2 (subf L (broadcast S128x252 (Scalar.ofBits .f32 0x3F800000#32)))) r) L (broadcast S128x252 (Scalar.ofBits .f32 0xC2FC0000#32)) x
      = Scalar.select (Ideal.cmp .ole (Ideal.exp2 (L x - Ideal.ofBits .f32 0x3F800000#32)) (r x)) (L x) (Ideal.ofBits .f32 0xC2FC0000#32) := rfl
theorem flag_apply (e r : FVec Ideal S128x1 .f32) (x : S128x1.Idx) :
    select (ori (cmpf .olt e (broadcast S128x1 (Scalar.ofBits .f32 0xC2FA0000#32))) (cmpf .oge r (broadcast S128x1 (Scalar.ofBits .f32 0x7E800000#32))))
      (broadcast S128x1 (Scalar.ofBits .f32 0x00000000#32)) e x
      = Scalar.select (IntOp.ori (Ideal.cmp .olt (e x) (Ideal.ofBits .f32 0xC2FA0000#32)) (Ideal.cmp .oge (r x) (Ideal.ofBits .f32 0x7E800000#32)))
        (Ideal.ofBits .f32 0x00000000#32) (e x) := rfl

theorem ecol_apply (V : M) (i : Fin 128) : ecol V (ix2 (n0 := 128) (n1 := 1) i 0) = Scale.expR (Layer.ratioR V i) := by
  have hm : (shapeCast S128x1 (multiReduction .maximumf [1] S128 (select (cmpf .ole (exp2 (subf lanes (broadcast S128x252 (Scalar.ofBits .f32 0x3F800000#32))))
      (broadcastTo S128x252 (rcol V) broadcasts_S128x1_S128x252)) lanes (broadcast S128x252 (Scalar.ofBits .f32 0xC2FC0000#32))) 0xFF800000#32 reduces_S128x252_S128 (.inl rfl) rfl)
      shapeCasts_S128_S128x1 : FVec Ideal S128x1 .f32) (ix2 (n0 := 128) (n1 := 1) i 0) = Scale.maxR (Layer.ratioR V i) := by
    refine (shapeCast_a_a1_apply (a := 128) _ _ i 0).trans ?_
    refine (Layer.reduce_row (m := 128) (n := 252) _ _ _ _ _ i).trans ?_
    unfold Scale.maxR
    refine congrArg (fun f => Finset.fold max (Ideal.ofBits .f32 0xFF800000#32) f (Finset.univ : Finset (Fin 252))) (funext fun j => ?_)
    have hb := (Layer.broadcastTo_a1_ab_apply (a := 128) (b := 252) (rcol V) broadcasts_S128x1_S128x252 i j).trans (rcol_apply V i)
    refine (cand_apply _ _ _).trans ?_
    rw [show broadcastTo S128x252 (rcol V) broadcasts_S128x1_S128x252 (ix2 (n0 := 128) (n1 := 252) i j) = _ from hb, lanes_apply i j]
    rfl
  unfold ecol k0_pay18
  refine (flag_apply _ _ _).trans ?_
  rw [hm, rcol_apply]
  rfl

/-- The codes, the scales and the next features as the reference computes them. -/
def qcodes (V : M) : FVec Ideal S128x3584 .fp8e4m3 := k0_pay11 V (ecol V) k0_pay10
def qrow (V : M) : FVec Ideal S1x128 .f32 := k0_pay14 (ecol V)
def qnext (x0 V : M) (w : Vec Ideal S1x3584x3584 .fp8e4m3) (ws b : Vec Ideal S1x3584 .f32) : M := k0_pay13 x0 V (ecol V) k0_pay10 w ws b

theorem qcodes_eq (V : M) : qcodes V = Layer.codes V := by
  funext x
  obtain ⟨i, j, rfl⟩ : ∃ (i : Fin 128) (j : Fin 3584), x = ix2 i j := ⟨x 0, x 1, eq_ix2 x⟩
  unfold Layer.codes
  have hb := Layer.broadcastTo_a1_ab_apply (a := 128) (b := 3584) (exp2 (subf k0_pay10 (ecol V))) broadcasts_S128x1_S128x3584 i j
  have he : (exp2 (subf k0_pay10 (ecol V)) : FVec Ideal S128x1 .f32) (ix2 (n0 := 128) (n1 := 1) i 0)
      = Ideal.exp2 (Ideal.ofBits .f32 0x00000000#32 - Scale.expR (Layer.ratioR V i)) := by
    rw [← ecol_apply]; rfl
  have h := hb.trans he
  show min _ (max _ (V (ix2 i j) * broadcastTo S128x3584 (exp2 (subf k0_pay10 (ecol V))) broadcasts_S128x1_S128x3584 (ix2 (n0 := 128) (n1 := 3584) i j))) = _
  rw [show broadcastTo S128x3584 (exp2 (subf k0_pay10 (ecol V))) broadcasts_S128x1_S128x3584 (ix2 (n0 := 128) (n1 := 3584) i j) = _ from h]
  rfl

theorem qrow_eq (V : M) : qrow V = Layer.srow V := by
  funext x
  obtain ⟨i, j, rfl⟩ : ∃ (i : Fin 1) (j : Fin 128), x = ix2 i j := ⟨x 0, x 1, eq_ix2 x⟩
  unfold qrow k0_pay14 Layer.srow
  refine (transpose_ix2_apply (a := 128) (b := 1) _ _ i j).trans ?_
  obtain rfl : i = 0 := Subsingleton.elim _ _
  unfold k0_pay12
  show Ideal.exp2 (ecol V (ix2 (n0 := 128) (n1 := 1) j 0)) = _
  rw [ecol_apply]

theorem qnext_eq (x0 V : M) (w : Vec Ideal S1x3584x3584 .fp8e4m3) (ws b : Vec Ideal S1x3584 .f32) (W : Layer.Ten) (WS B : Layer.Mat 3 3584) (l : Fin 3)
    (hw : ∀ k j : Fin 3584, w (ix3 (0 : Fin 1) k j) = W (ix3 l k j))
    (hws : ∀ j : Fin 3584, ws (ix2 (0 : Fin 1) j) = WS (ix2 l j)) (hb : ∀ j : Fin 3584, b (ix2 (0 : Fin 1) j) = B (ix2 l j)) :
    qnext x0 V w ws b = Layer.next x0 V W WS B l := by
  funext x
  obtain ⟨i, j, rfl⟩ : ∃ (i : Fin 128) (j : Fin 3584), x = ix2 i j := ⟨x 0, x 1, eq_ix2 x⟩
  have h1 : (FloatOps.matmul dot_S128x3584_S3584x3584_S128x3584_1_0_0_1_n_n none (qcodes V)
      (shapeCast S3584x3584 w shapeCasts_S1x3584x3584_S3584x3584 : FVec Ideal S3584x3584 .fp8e4m3) (constant S128x3584 .f32 0x00000000#32) : FVec Ideal S128x3584 .f32) (ix2 (n0 := 128) (n1 := 3584) i j)
      = Ideal.ofBits .f32 0x00000000#32 + ∑ k : Fin 3584, Layer.codes V (ix2 i k) * W (ix3 l k j) := by
    refine (Ideal.matmul_plain_apply (M := 128) (K := 3584) (N := 3584) none _ _ _ i j).trans ?_
    refine congrArg₂ (· + ·) rfl (Finset.sum_congr rfl fun k _ => ?_)
    rw [qcodes_eq]
    refine congrArg₂ (· * ·) rfl ?_
    exact (shapeCast_1ab_ab_apply (a := 3584) (b := 3584) w _ k j).trans (hw k j)
  have h2 : broadcastTo S128x3584 (k0_pay12 (ecol V)) broadcasts_S128x1_S128x3584 (ix2 (n0 := 128) (n1 := 3584) i j)
      = Ideal.exp2 (Scale.expR (Layer.ratioR V i)) := by
    refine (Layer.broadcastTo_a1_ab_apply (a := 128) (b := 3584) _ _ i j).trans ?_
    unfold k0_pay12
    show Ideal.exp2 (ecol V (ix2 (n0 := 128) (n1 := 1) i 0)) = _
    rw [ecol_apply]
  have h3 : broadcastTo S128x3584 ws broadcasts_S1x3584_S128x3584 (ix2 (n0 := 128) (n1 := 3584) i j) = WS (ix2 l j) :=
    (broadcastTo_1b_ab_apply (a := 128) (b := 3584) _ _ i j).trans (hws j)
  have h4 : broadcastTo S128x3584 b broadcasts_S1x3584_S128x3584 (ix2 (n0 := 128) (n1 := 3584) i j) = B (ix2 l j) :=
    (broadcastTo_1b_ab_apply (a := 128) (b := 3584) _ _ i j).trans (hb j)
  unfold qnext k0_pay13 matmul
  rw [addf_apply, mulf_apply, addf_apply, mulf_apply, mulf_apply]
  refine congrArg₂ (· + ·) (congrArg₂ (· * ·) rfl (congrArg₂ (· + ·) (congrArg₂ (· * ·) (congrArg₂ (· * ·) h1 h2) h3) h4)) rfl

section Results
variable (a0 : Vec Ideal S1x128x3584 .bf16) (a1 : Vec Ideal S3x3584x3584 .fp8e4m3) (a2 : Vec Ideal S3x3584 .f32) (a3 : Vec Ideal S3x3584 .f32)

/-- The features before each layer and after the last. -/
def y0 : M := k0_pay2 (View.ld a0 r0_0)
def y1 : M := qnext (y0 a0) (y0 a0) (View.ld a1 r0_1) (View.ld a2 r0_2) (View.ld a3 r0_2)
def y2 : M := qnext (y0 a0) (y1 a0 a1 a2 a3) (View.ld a1 r0_5) (View.ld a2 r0_6) (View.ld a3 r0_6)
def y3 : M := qnext (y0 a0) (y2 a0 a1 a2 a3) (View.ld a1 r0_7) (View.ld a2 r0_8) (View.ld a3 r0_8)

theorem g4 : Value.G4 a0 a1 a2 a3 = k0_pay1 (y3 a0 a1 a2 a3) := rfl
theorem g5 : Value.G5 a0 a1 a2 a3 = qcodes (y0 a0) := rfl
theorem g6 : Value.G6 a0 a1 a2 a3 = qrow (y0 a0) := rfl
theorem g7 : Value.G7 a0 a1 a2 a3 = qcodes (y1 a0 a1 a2 a3) := rfl
theorem g8 : Value.G8 a0 a1 a2 a3 = qrow (y1 a0 a1 a2 a3) := rfl
theorem g9 : Value.G9 a0 a1 a2 a3 = qcodes (y2 a0 a1 a2 a3) := rfl
theorem g10 : Value.G10 a0 a1 a2 a3 = qrow (y2 a0 a1 a2 a3) := rfl

theorem y0_apply (i : Fin 128) (j : Fin 3584) : y0 a0 (ix2 (n0 := 128) (n1 := 3584) i j) = a0 (ix3 (0 : Fin 1) i j) := by
  refine (shapeCast_1ab_ab_apply (a := 128) (b := 3584) (View.ld a0 r0_0) shapeCasts_S1x128x3584_S128x3584 i j).trans ?_
  refine congrArg a0 (funext fun a => Fin.ext ?_)
  match a with
  | ⟨0, _⟩ => rfl
  | ⟨1, _⟩ => show 0 + 1 * i.val = i.val; omega
  | ⟨2, _⟩ => show 0 + 1 * j.val = j.val; omega

theorem y1_eq : y1 a0 a1 a2 a3 = Layer.next (y0 a0) (y0 a0) a1 a2 a3 0 := by
  refine qnext_eq _ _ _ _ _ _ _ _ _ (fun k j => congrArg a1 (funext fun a => Fin.ext ?_)) (fun j => congrArg a2 (funext fun a => Fin.ext ?_))
    (fun j => congrArg a3 (funext fun a => Fin.ext ?_))
  · match a with
    | ⟨0, _⟩ => rfl
    | ⟨1, _⟩ => show 0 + 1 * k.val = k.val; omega
    | ⟨2, _⟩ => show 0 + 1 * j.val = j.val; omega
  all_goals
    match a with
    | ⟨0, _⟩ => rfl
    | ⟨1, _⟩ => show 0 + 1 * j.val = j.val; omega

theorem y2_eq : y2 a0 a1 a2 a3 = Layer.next (y0 a0) (y1 a0 a1 a2 a3) a1 a2 a3 1 := by
  refine qnext_eq _ _ _ _ _ _ _ _ _ (fun k j => congrArg a1 (funext fun a => Fin.ext ?_)) (fun j => congrArg a2 (funext fun a => Fin.ext ?_))
    (fun j => congrArg a3 (funext fun a => Fin.ext ?_))
  · match a with
    | ⟨0, _⟩ => rfl
    | ⟨1, _⟩ => show 0 + 1 * k.val = k.val; omega
    | ⟨2, _⟩ => show 0 + 1 * j.val = j.val; omega
  all_goals
    match a with
    | ⟨0, _⟩ => rfl
    | ⟨1, _⟩ => show 0 + 1 * j.val = j.val; omega

theorem y3_eq : y3 a0 a1 a2 a3 = Layer.next (y0 a0) (y2 a0 a1 a2 a3) a1 a2 a3 2 := by
  refine qnext_eq _ _ _ _ _ _ _ _ _ (fun k j => congrArg a1 (funext fun a => Fin.ext ?_)) (fun j => congrArg a2 (funext fun a => Fin.ext ?_))
    (fun j => congrArg a3 (funext fun a => Fin.ext ?_))
  · match a with
    | ⟨0, _⟩ => rfl
    | ⟨1, _⟩ => show 0 + 1 * k.val = k.val; omega
    | ⟨2, _⟩ => show 0 + 1 * j.val = j.val; omega
  all_goals
    match a with
    | ⟨0, _⟩ => rfl
    | ⟨1, _⟩ => show 0 + 1 * j.val = j.val; omega

end Results

end Cert.RefVal

end
-- ==== Proof.Equation.lean ====
/- The idealized kernel and the reference return the same seven results. -/
module

public import proofs.«01_k».proof.Defs
public import proofs.«01_k».proof.Proof.Region
public import proofs.«01_k».proof.Proof.KernelVal
public import proofs.«01_k».proof.Proof.RefVal

@[expose] public section

set_option maxRecDepth 16384

noncomputable section

namespace Cert.Proof

open Idealize.ShloMosaic Idealize.SL.Sem Idealize.ShloMosaic.ValueIdx
open Cert.KernelIdeal (nD τ sig main_arg0 main_arg1 main_arg2 main_arg3 main_v0 main_v1_0 main_v1_1 main_v1_2 main_v1_3 main_v1_4 main_v1_5 main_v1_6)
open Cert.KernelIdeal.Gen (V V_main_arg1 V_main_arg2 V_main_arg3)
open Cert.KernelIdeal.Hand Cert.KernelIdeal

variable (m : (ℓ : Loc nD τ sig) → Buf (Elt Ideal) ℓ) (c : Dev nD)

abbrev A0 : FVec Ideal S1x128x3584 .bf16 := m ((c.tc : Thread nD τ).loc main_arg0)
abbrev A1 : FVec Ideal S3x3584x3584 .fp8e4m3 := m ((c.tc : Thread nD τ).loc main_arg1)
abbrev A2 : FVec Ideal S3x3584 .f32 := m ((c.tc : Thread nD τ).loc main_arg2)
abbrev A3 : FVec Ideal S3x3584 .f32 := m ((c.tc : Thread nD τ).loc main_arg3)

/-- The input as the kernel reads it: the argument without its leading axis. -/
theorem V_main_v0 : V m c main_v0 = shapeCast S128x3584 (A0 m c) Cert.KernelIdeal.Gen.shapeCasts_S1x128x3584_S128x3584 := by
  show StableHlo.after Cert.KernelIdeal.Gen.hostOps0 _ (Proc.devRef .tc main_v0) = _
  after_results
  rfl

/-- The input features of both programs. -/
theorem x0_y0 : asm (X0 m c).x0 = RefVal.y0 (A0 m c) := by
  rw [KernelVal.x0_eq]
  show V m c main_v0 = _
  rw [V_main_v0]
  funext x
  obtain ⟨i, j, rfl⟩ : ∃ (i : Fin 128) (j : Fin 3584), x = ix2 i j := ⟨x 0, x 1, eq_ix2 x⟩
  exact (shapeCast_1ab_ab_apply (a := 128) (b := 3584) _ _ i j).trans (RefVal.y0_apply (A0 m c) i j).symm

theorem w_eq : (X0 m c).w = A1 m c := V_main_arg1 m c
theorem ws_eq : (X0 m c).ws = A2 m c := V_main_arg2 m c
theorem b_eq : (X0 m c).b = A3 m c := V_main_arg3 m c

/-- The features after one, two and three layers. -/
theorem x1_y1 : asm (X0 m c).x1 = RefVal.y1 (A0 m c) (A1 m c) (A2 m c) (A3 m c) := by
  unfold Args.x1
  rw [KernelVal.next_eq, RefVal.y1_eq, x0_y0, w_eq, ws_eq, b_eq]
theorem x2_y2 : asm (X0 m c).x2 = RefVal.y2 (A0 m c) (A1 m c) (A2 m c) (A3 m c) := by
  unfold Args.x2
  rw [KernelVal.next_eq, RefVal.y2_eq, x0_y0, x1_y1, w_eq, ws_eq, b_eq]
theorem x3_y3 : asm (X0 m c).x3 = RefVal.y3 (A0 m c) (A1 m c) (A2 m c) (A3 m c) := by
  unfold Args.x3
  rw [KernelVal.next_eq, RefVal.y3_eq, x0_y0, x2_y2, w_eq, ws_eq, b_eq]

/-- The seven results, one by one. -/
theorem r0 : G m c main_v1_0 = Cert.ReferenceIdeal.Value.G4 (A0 m c) (A1 m c) (A2 m c) (A3 m c) := by
  rw [G_0, RefVal.g4, ← x3_y3]; rfl
theorem r1 : G m c main_v1_1 = Cert.ReferenceIdeal.Value.G5 (A0 m c) (A1 m c) (A2 m c) (A3 m c) := by
  rw [G_1, RefVal.g5, RefVal.qcodes_eq, ← x0_y0]; exact KernelVal.codesM_eq _
theorem r2 : G m c main_v1_2 = Cert.ReferenceIdeal.Value.G6 (A0 m c) (A1 m c) (A2 m c) (A3 m c) := by
  rw [G_2, RefVal.g6, RefVal.qrow_eq, ← x0_y0]; exact KernelVal.scaleRow_eq _
theorem r3 : G m c main_v1_3 = Cert.ReferenceIdeal.Value.G7 (A0 m c) (A1 m c) (A2 m c) (A3 m c) := by
  rw [G_3, RefVal.g7, RefVal.qcodes_eq, ← x1_y1]; exact KernelVal.codesM_eq _
theorem r4 : G m c main_v1_4 = Cert.ReferenceIdeal.Value.G8 (A0 m c) (A1 m c) (A2 m c) (A3 m c) := by
  rw [G_4, RefVal.g8, RefVal.qrow_eq, ← x1_y1]; exact KernelVal.scaleRow_eq _
theorem r5 : G m c main_v1_5 = Cert.ReferenceIdeal.Value.G9 (A0 m c) (A1 m c) (A2 m c) (A3 m c) := by
  rw [G_5, RefVal.g9, RefVal.qcodes_eq, ← x2_y2]; exact KernelVal.codesM_eq _
theorem r6 : G m c main_v1_6 = Cert.ReferenceIdeal.Value.G10 (A0 m c) (A1 m c) (A2 m c) (A3 m c) := by
  rw [G_6, RefVal.g10, RefVal.qrow_eq, ← x2_y2]; exact KernelVal.scaleRow_eq _

/-- Run from equal arguments, the idealized kernel and the reference end with the same seven results and leave their
    arguments as they were. -/
theorem algebraic : Cert.algebraic_KernelIdeal_ReferenceIdeal := by
  intro m g m' g' _ hag
  refine ⟨fun c => G m c main_v1_0, fun c => G m c main_v1_1, fun c => G m c main_v1_2, fun c => G m c main_v1_3,
    fun c => G m c main_v1_4, fun c => G m c main_v1_5, fun c => G m c main_v1_6, ?_, ?_⟩
  · exact (θ_run _ _ _).mono (fun r h c => ⟨h.1.2 c main_v1_0 (by decide), h.1.2 c main_v1_1 (by decide), h.1.2 c main_v1_2 (by decide),
      h.1.2 c main_v1_3 (by decide), h.1.2 c main_v1_4 (by decide), h.1.2 c main_v1_5 (by decide), h.1.2 c main_v1_6 (by decide),
      unchanged m h.1 c⟩) (run_main m g)
  · refine (θ_run _ _ _).mono (fun r h c => ?_) (Cert.ReferenceIdeal.Value.run m' g')
    obtain ⟨e0, e1, e2, e3⟩ := hag c
    obtain ⟨h0, h1, h2, h3, h4, h5, h6, hr⟩ := h c
    rw [e0, e1, e2, e3] at h0 h1 h2 h3 h4 h5 h6
    exact ⟨h0.trans (r0 m c).symm, h1.trans (r1 m c).symm, h2.trans (r2 m c).symm, h3.trans (r3 m c).symm,
      h4.trans (r4 m c).symm, h5.trans (r5 m c).symm, h6.trans (r6 m c).symm, hr⟩

end Cert.Proof

end
-- ==== Proof.lean ====
/- The certificate: each claim of `Cert.Claim`, from the modules that prove it. -/
module

public import proofs.«01_k».proof.Proof.Frames
public import proofs.«01_k».proof.Proof.Equation
public import proofs.«01_k».proof.Proof.Gen.ReferenceIdeal.Value

@[expose] public section

noncomputable section

namespace Cert.Proof

/-- The three programs run to the end with their arguments unchanged and every counter at zero, and the idealized kernel
    keeps the kernel's operations; at the reals the idealized kernel and the reference return the same seven results. -/
theorem claim : Cert.Claim :=
  ⟨Cert.Kernel.Gen.facts, Cert.KernelIdeal.Gen.facts, Cert.ReferenceIdeal.Gen.facts, quiescent_Kernel, quiescent_KernelIdeal, quiescent_ReferenceIdeal, trivial, algebraic⟩

end Cert.Proof

end
